-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![64, 512]⟩ ⟨2, ![64, 1024]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 2048]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![512, 1024]⟩ ⟨2, ![1024, 2048]⟩ (Layout.meshBlock [2, 2] ![[1], [0]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![512, 1024]⟩ ⟨2, ![1024, 2048]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![64, 512]⟩ ⟨2, ![64, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S6x64x512 : Shape := ⟨3, ![6, 64, 512]⟩
abbrev S6x64x256 : Shape := ⟨3, ![6, 64, 256]⟩
abbrev S12 : Shape := ⟨1, ![12]⟩
abbrev S_ : Shape := ⟨0, ![]⟩
abbrev S512x512 : Shape := ⟨2, ![512, 512]⟩
abbrev S1x64x512 : Shape := ⟨3, ![1, 64, 512]⟩
abbrev S1 : Shape := ⟨1, ![1]⟩
abbrev S512x256 : Shape := ⟨2, ![512, 256]⟩
abbrev S64x256 : Shape := ⟨2, ![64, 256]⟩
abbrev S1x64x256 : Shape := ⟨3, ![1, 64, 256]⟩
abbrev S256x512 : Shape := ⟨2, ![256, 512]⟩

abbrev nBuf : Space → Nat
  | .hbm => 8
  | .vmem => 12
  | .smem => 0
  | _ => 0

abbrev bufTy : (tb : Table) → Fin (tcTables nBuf tb) → BufTy
  | .hbm, ⟨0, _⟩ => ⟨S64x512, .bf16⟩
  | .hbm, ⟨1, _⟩ => ⟨S512x1024, .bf16⟩
  | .hbm, ⟨2, _⟩ => ⟨S512x1024, .bf16⟩
  | .hbm, ⟨3, _⟩ => ⟨S512x1024, .bf16⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S64x512, .f32⟩
  | .local _ .vmem, ⟨0, _⟩ => ⟨S64x512, .bf16⟩
  | .local _ .vmem, ⟨1, _⟩ => ⟨S512x1024, .bf16⟩
  | .local _ .vmem, ⟨2, _⟩ => ⟨S1024x512, .bf16⟩
  | .local _ .vmem, ⟨3, _⟩ => ⟨S512x1024, .bf16⟩
  | .local _ .vmem, ⟨4, _⟩ => ⟨S1024x512, .bf16⟩
  | .local _ .vmem, ⟨5, _⟩ => ⟨S512x1024, .bf16⟩
  | .local _ .vmem, ⟨6, _⟩ => ⟨S1024x512, .bf16⟩
  | .local _ .vmem, ⟨7, _⟩ => ⟨S64x512, .f32⟩
  | .local _ .vmem, ⟨8, _⟩ => ⟨S6x64x512, .bf16⟩
  | .local _ .vmem, ⟨9, _⟩ => ⟨S6x64x512, .bf16⟩
  | .local _ .vmem, ⟨10, _⟩ => ⟨S6x64x256, .bf16⟩
  | .local _ .vmem, ⟨11, _⟩ => ⟨S6x64x256, .bf16⟩
  | _, _ => ⟨S64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v26 : BitVec 32 := Scalar.muli v2 c2_i32_22
  let v27 : BitVec 32 := Scalar.addi c0_i32_23 v26
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v28 : BitVec 32 := Scalar.muli v6 c1_i32_24
  let v29 : BitVec 32 := Scalar.addi v27 v28
  v29.toNat
def k0_dev4 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v45 : BitVec 32 := Scalar.muli v2 c2_i32_37
  let v46 : BitVec 32 := Scalar.addi c0_i32_38 v45
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_39 : BitVec 32 := 1#32
  let v47 : BitVec 32 := Scalar.muli v6 c1_i32_39
  let v48 : BitVec 32 := Scalar.addi v46 v47
  v48.toNat
def k0_dev5 (d0 : Dev nD) : Nat :=
  let c0_i32_114 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_113 : BitVec 32 := 2#32
  let v119 : BitVec 32 := Scalar.muli v7 c2_i32_113
  let v120 : BitVec 32 := Scalar.addi c0_i32_114 v119
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_115 : BitVec 32 := 1#32
  let v121 : BitVec 32 := Scalar.muli v5 c1_i32_115
  let v122 : BitVec 32 := Scalar.addi v120 v121
  v122.toNat
def k0_dev6 (d0 : Dev nD) : Nat :=
  let c0_i32_130 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_129 : BitVec 32 := 2#32
  let v139 : BitVec 32 := Scalar.muli v7 c2_i32_129
  let v140 : BitVec 32 := Scalar.addi c0_i32_130 v139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_131 : BitVec 32 := 1#32
  let v141 : BitVec 32 := Scalar.muli v5 c1_i32_131
  let v142 : BitVec 32 := Scalar.addi v140 v141
  v142.toNat
def k0_dev7 (d0 : Dev nD) : Nat :=
  let c0_i32_203 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_202 : BitVec 32 := 2#32
  let v209 : BitVec 32 := Scalar.muli v2 c2_i32_202
  let v210 : BitVec 32 := Scalar.addi c0_i32_203 v209
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_204 : BitVec 32 := 1#32
  let v211 : BitVec 32 := Scalar.muli v6 c1_i32_204
  let v212 : BitVec 32 := Scalar.addi v210 v211
  v212.toNat
def k0_dev8 (d0 : Dev nD) : Nat :=
  let c0_i32_218 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_217 : BitVec 32 := 2#32
  let v229 : BitVec 32 := Scalar.muli v2 c2_i32_217
  let v230 : BitVec 32 := Scalar.addi c0_i32_218 v229
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_219 : BitVec 32 := 1#32
  let v231 : BitVec 32 := Scalar.muli v6 c1_i32_219
  let v232 : BitVec 32 := Scalar.addi v230 v231
  v232.toNat
def k0_dev9 (d0 : Dev nD) : Nat :=
  let c0_i32_294 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_293 : BitVec 32 := 2#32
  let v303 : BitVec 32 := Scalar.muli v7 c2_i32_293
  let v304 : BitVec 32 := Scalar.addi c0_i32_294 v303
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_295 : BitVec 32 := 1#32
  let v305 : BitVec 32 := Scalar.muli v5 c1_i32_295
  let v306 : BitVec 32 := Scalar.addi v304 v305
  v306.toNat
def k0_dev10 (d0 : Dev nD) : Nat :=
  let c0_i32_310 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_309 : BitVec 32 := 2#32
  let v323 : BitVec 32 := Scalar.muli v7 c2_i32_309
  let v324 : BitVec 32 := Scalar.addi c0_i32_310 v323
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_311 : BitVec 32 := 1#32
  let v325 : BitVec 32 := Scalar.muli v5 c1_i32_311
  let v326 : BitVec 32 := Scalar.addi v324 v325
  v326.toNat
def k0_dev11 (d0 : Dev nD) : Nat :=
  let c0_i32_383 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_382 : BitVec 32 := 2#32
  let v393 : BitVec 32 := Scalar.muli v2 c2_i32_382
  let v394 : BitVec 32 := Scalar.addi c0_i32_383 v393
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_384 : BitVec 32 := 1#32
  let v395 : BitVec 32 := Scalar.muli v6 c1_i32_384
  let v396 : BitVec 32 := Scalar.addi v394 v395
  v396.toNat
def k0_dev12 (d0 : Dev nD) : Nat :=
  let c0_i32_398 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_397 : BitVec 32 := 2#32
  let v413 : BitVec 32 := Scalar.muli v2 c2_i32_397
  let v414 : BitVec 32 := Scalar.addi c0_i32_398 v413
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_399 : BitVec 32 := 1#32
  let v415 : BitVec 32 := Scalar.muli v6 c1_i32_399
  let v416 : BitVec 32 := Scalar.addi v414 v415
  v416.toNat
def k0_dev13 (d0 : Dev nD) : Nat :=
  let c0_i32_474 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_473 : BitVec 32 := 2#32
  let v487 : BitVec 32 := Scalar.muli v7 c2_i32_473
  let v488 : BitVec 32 := Scalar.addi c0_i32_474 v487
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_475 : BitVec 32 := 1#32
  let v489 : BitVec 32 := Scalar.muli v5 c1_i32_475
  let v490 : BitVec 32 := Scalar.addi v488 v489
  v490.toNat
def k0_dev14 (d0 : Dev nD) : Nat :=
  let c0_i32_490 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_489 : BitVec 32 := 2#32
  let v507 : BitVec 32 := Scalar.muli v7 c2_i32_489
  let v508 : BitVec 32 := Scalar.addi c0_i32_490 v507
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_491 : BitVec 32 := 1#32
  let v509 : BitVec 32 := Scalar.muli v5 c1_i32_491
  let v510 : BitVec 32 := Scalar.addi v508 v509
  v510.toNat
abbrev stage0_0 : Fin 1 → Memref sig .tc .vmem S64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x1024 : Shape := ⟨2, ![64, 1024]⟩
abbrev S1024x2048 : Shape := ⟨2, ![1024, 2048]⟩
abbrev S2048x1024 : Shape := ⟨2, ![2048, 1024]⟩
abbrev S64x2048 : Shape := ⟨2, ![64, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S64x1024, .bf16⟩
  | .hbm, ⟨1, _⟩ => ⟨S1024x2048, .bf16⟩
  | .hbm, ⟨2, _⟩ => ⟨S1024x2048, .bf16⟩
  | .hbm, ⟨3, _⟩ => ⟨S1024x2048, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S64x2048, .f32⟩
  | .hbm, ⟨8, _⟩ => ⟨S64x2048, .bf16⟩
  | .hbm, ⟨9, _⟩ => ⟨S_, .bf16⟩
  | .hbm, ⟨10, _⟩ => ⟨S64x2048, .bf16⟩
  | .hbm, ⟨11, _⟩ => ⟨S64x2048, .bf16⟩
  | .hbm, ⟨12, _⟩ => ⟨S64x1024, .f32⟩
  | .hbm, ⟨13, _⟩ => ⟨S64x1024, .bf16⟩
  | .hbm, ⟨14, _⟩ => ⟨S64x2048, .f32⟩
  | .hbm, ⟨15, _⟩ => ⟨S64x2048, .bf16⟩
  | .hbm, ⟨16, _⟩ => ⟨S_, .bf16⟩
  | .hbm, ⟨17, _⟩ => ⟨S64x2048, .bf16⟩
  | .hbm, ⟨18, _⟩ => ⟨S64x2048, .bf16⟩
  | .hbm, ⟨19, _⟩ => ⟨S64x1024, .f32⟩
  | .hbm, ⟨20, _⟩ => ⟨S64x1024, .bf16⟩
  | .hbm, ⟨21, _⟩ => ⟨S64x2048, .f32⟩
  | .hbm, ⟨22, _⟩ => ⟨S64x2048, .bf16⟩
  | .hbm, ⟨23, _⟩ => ⟨S_, .bf16⟩
  | .hbm, ⟨24, _⟩ => ⟨S64x2048, .bf16⟩
  | .hbm, ⟨25, _⟩ => ⟨S64x2048, .bf16⟩
  | .hbm, ⟨26, _⟩ => ⟨S64x1024, .f32⟩
  | .hbm, ⟨27, _⟩ => ⟨S64x1024, .bf16⟩
  | .hbm, ⟨28, _⟩ => ⟨S64x1024, .f32⟩
  | _, _ => ⟨S64x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Values.lean ====
/-
What the four devices put into their exchange slots.

Device `c` of the 2x2 mesh (device number `2 * x + y`) holds its column half of the input and its blocks of the six
weights. It adds two exchanged partial products twice per layer: the hidden activations with the device that differs in
`y`, the layer's result with the device that differs in `x`. Every partial product is exchanged in two column halves,
so a device sends six hidden slots (`hVal`) and six result slots (`oVal`), each a function of its own blocks and of
slots sent before.
-/
module

public import proofs.«01_k».proof.Proof.Gen.KernelIdeal
public import proofs.«01_k».proof.Proof.Gen.KernelIdeal.Skeleton
public import Idealize.ShloMosaic.Lib.Pipeline.Kit
public import Idealize.ShloMosaic.Lib.Pipeline.Value
public import Idealize.ShloMosaic.Lib.Pointwise.ShapeOpsCore

@[expose] public section

noncomputable section

namespace Cert.MlpProof

open Cert.KernelIdeal Cert.KernelIdeal.Gen
open Idealize.ShloMosaic

variable {F : FTy → Type} [FloatOps F]

/-! ## The mesh -/

set_option backward.proofsInPublic true in
/-- The device with the other `y` coordinate. -/
def yP (c : Dev nD) : Dev nD := ⟨2 * (c.val / 2) + 1 - c.val % 2, by have : c.val < 4 := c.isLt; show _ < 4; omega⟩
set_option backward.proofsInPublic true in
/-- The device with the other `x` coordinate. -/
def xP (c : Dev nD) : Dev nD := ⟨c.val % 2 + 2 - 2 * (c.val / 2), by have : c.val < 4 := c.isLt; show _ < 4; omega⟩

/-- The peer of device `c` in a hidden exchange (`false`) or in a result exchange (`true`). -/
def peer (b : Bool) (c : Dev nD) : Dev nD := match b with
  | false => yP c
  | true => xP c

theorem yP_yP (c : Dev nD) : yP (yP c) = c := by revert c; decide
theorem xP_xP (c : Dev nD) : xP (xP c) = c := by revert c; decide
theorem peer_peer (b : Bool) (c : Dev nD) : peer b (peer b c) = c := by cases b; exacts [yP_yP c, xP_xP c]

/-! ## The blocks every device holds -/

/-- The blocks of the operands: device `c` holds `x c`, and of layer `l` its weights `wi l c` and `wo l c`. -/
structure Args (F : FTy → Type) where
  x : Dev nD → Vec F S64x512 .bf16
  wi : Fin 3 → Dev nD → Vec F S512x1024 .bf16
  wo : Fin 3 → Dev nD → Vec F S1024x512 .bf16

/-- The input block as the body loads it. -/
abbrev ldx (X : Vec F S64x512 .bf16) : Vec F S64x512 .bf16 :=
  View.ld X (Rect.unit (s := S64x512) ![0, 0] S64x512.size inb_S64x512_S64x512_0_0)
/-- The column halves of a first-layer input weight: columns 0..511, columns 512..1023. -/
abbrev wiL (W : Vec F S512x1024 .bf16) : Vec F S512x512 .bf16 :=
  View.ld W (Rect.unit (s := S512x1024) ![0, 0] S512x512.size inb_S512x1024_S512x512_0_0)
abbrev wiR (W : Vec F S512x1024 .bf16) : Vec F S512x512 .bf16 :=
  View.ld W (Rect.unit (s := S512x1024) ![0, 512] S512x512.size inb_S512x1024_S512x512_0_512)
/-- The quarters of a later input weight: upper or lower 256 rows, left or right 512 columns. -/
abbrev wiUL (W : Vec F S512x1024 .bf16) : Vec F S256x512 .bf16 :=
  View.ld W (Rect.unit (s := S512x1024) ![0, 0] S256x512.size inb_S512x1024_S256x512_0_0)
abbrev wiUR (W : Vec F S512x1024 .bf16) : Vec F S256x512 .bf16 :=
  View.ld W (Rect.unit (s := S512x1024) ![0, 512] S256x512.size inb_S512x1024_S256x512_0_512)
abbrev wiDL (W : Vec F S512x1024 .bf16) : Vec F S256x512 .bf16 :=
  View.ld W (Rect.unit (s := S512x1024) ![256, 0] S256x512.size inb_S512x1024_S256x512_256_0)
abbrev wiDR (W : Vec F S512x1024 .bf16) : Vec F S256x512 .bf16 :=
  View.ld W (Rect.unit (s := S512x1024) ![256, 512] S256x512.size inb_S512x1024_S256x512_256_512)
/-- The quarters of an output weight: upper or lower 512 rows, left or right 256 columns. -/
abbrev woUL (W : Vec F S1024x512 .bf16) : Vec F S512x256 .bf16 :=
  View.ld W (Rect.unit (s := S1024x512) ![0, 0] S512x256.size inb_S1024x512_S512x256_0_0)
abbrev woUR (W : Vec F S1024x512 .bf16) : Vec F S512x256 .bf16 :=
  View.ld W (Rect.unit (s := S1024x512) ![0, 256] S512x256.size inb_S1024x512_S512x256_0_256)
abbrev woDL (W : Vec F S1024x512 .bf16) : Vec F S512x256 .bf16 :=
  View.ld W (Rect.unit (s := S1024x512) ![512, 0] S512x256.size inb_S1024x512_S512x256_512_0)
abbrev woDR (W : Vec F S1024x512 .bf16) : Vec F S512x256 .bf16 :=
  View.ld W (Rect.unit (s := S1024x512) ![512, 256] S512x256.size inb_S1024x512_S512x256_512_256)

/-! ## The slots -/

section Slots
variable (A : Args F)

/-- Layer 0: the two column halves of the hidden partial product. -/
def hv0 (c : Dev nD) : Vec F S1x64x512 .bf16 := k0_pay3 (ldx (A.x c)) (wiL (A.wi 0 c))
def hv1 (c : Dev nD) : Vec F S1x64x512 .bf16 := k0_pay4 (k0_pay2 (ldx (A.x c))) (wiR (A.wi 0 c))
/-- Layer 0: the two column halves of the result's partial product. -/
def ov0 (c : Dev nD) : Vec F S1x64x256 .bf16 :=
  k0_pay11 (k0_pay6 (hv0 A c) (hv0 A (yP c)) (woUL (A.wo 0 c))) (k0_pay9 (hv1 A c) (hv1 A (yP c)))
    (k0_pay10 (woDL (A.wo 0 c))) (constant S64x256 .f32 0x00000000#32)
def ov1 (c : Dev nD) : Vec F S1x64x256 .bf16 :=
  k0_pay12 (k0_pay8 (k0_pay5 (hv0 A c) (hv0 A (yP c))) (k0_pay7 (woUR (A.wo 0 c)))) (k0_pay9 (hv1 A c) (hv1 A (yP c)))
    (woDR (A.wo 0 c))
/-- Layer 1. -/
def hv2 (c : Dev nD) : Vec F S1x64x512 .bf16 :=
  k0_pay19 (k0_pay15 (k0_pay13 (ov0 A c)) (ov0 A (xP c)) (wiUL (A.wi 1 c))) (k0_pay17 (ov1 A c)) (ov1 A (xP c)) (wiDL (A.wi 1 c))
def hv3 (c : Dev nD) : Vec F S1x64x512 .bf16 :=
  k0_pay20 (k0_pay16 (k0_pay13 (ov0 A c)) (ov0 A (xP c)) (wiUR (A.wi 1 c))) (k0_pay17 (ov1 A c)) (ov1 A (xP c)) (wiDR (A.wi 1 c))
def ov2 (c : Dev nD) : Vec F S1x64x256 .bf16 :=
  k0_pay25 (k0_pay22 (hv2 A c) (hv2 A (yP c)) (woUL (A.wo 1 c))) (hv3 A c) (hv3 A (yP c)) (woDL (A.wo 1 c))
def ov3 (c : Dev nD) : Vec F S1x64x256 .bf16 :=
  k0_pay26 (k0_pay23 (hv2 A c) (hv2 A (yP c)) (woUR (A.wo 1 c))) (k0_pay24 (hv3 A c) (hv3 A (yP c))) (woDR (A.wo 1 c))
/-- Layer 2. -/
def hv4 (c : Dev nD) : Vec F S1x64x512 .bf16 :=
  k0_pay31 (k0_pay28 (ov2 A c) (ov2 A (xP c)) (wiUL (A.wi 2 c))) (ov3 A c) (ov3 A (xP c)) (wiDL (A.wi 2 c))
def hv5 (c : Dev nD) : Vec F S1x64x512 .bf16 :=
  k0_pay32 (k0_pay29 (ov2 A c) (ov2 A (xP c)) (wiUR (A.wi 2 c))) (k0_pay30 (ov3 A c) (ov3 A (xP c))) (wiDR (A.wi 2 c))
def ov4 (c : Dev nD) : Vec F S1x64x256 .bf16 :=
  k0_pay38 (k0_pay37 (k0_pay34 (hv4 A c) (hv4 A (yP c)) (woUL (A.wo 2 c))) (hv5 A c) (hv5 A (yP c)) (woDL (A.wo 2 c)))
def ov5 (c : Dev nD) : Vec F S1x64x256 .bf16 :=
  k0_pay39 (k0_pay35 (hv4 A c) (hv4 A (yP c)) (woUR (A.wo 2 c))) (k0_pay36 (hv5 A c) (hv5 A (yP c))) (woDR (A.wo 2 c))

/-- Hidden slot `k` of device `c`. -/
def hVal (k : Fin 6) (c : Dev nD) : Vec F S1x64x512 .bf16 := match k with
  | 0 => hv0 A c | 1 => hv1 A c | 2 => hv2 A c | 3 => hv3 A c | 4 => hv4 A c | 5 => hv5 A c
/-- Result slot `k` of device `c`. -/
def oVal (k : Fin 6) (c : Dev nD) : Vec F S1x64x256 .bf16 := match k with
  | 0 => ov0 A c | 1 => ov1 A c | 2 => ov2 A c | 3 => ov3 A c | 4 => ov4 A c | 5 => ov5 A c

/-- The two column halves lie inside the result block. -/
theorem slicesL : S64x512.Slices ![0, 0] S64x256 := ⟨rfl, inb_S64x512_S64x256_0_0⟩
theorem slicesR : S64x512.Slices ![0, 256] S64x256 := ⟨rfl, inb_S64x512_S64x256_0_256⟩

/-- The two column halves of device `c`'s result block. -/
def outL (c : Dev nD) : Vec F S64x256 .f32 := k0_pay40 (ov4 A c) (ov4 A (xP c))
def outR (c : Dev nD) : Vec F S64x256 .f32 := k0_pay1 (ov5 A c) (ov5 A (xP c))
/-- Device `c`'s result block after the body's two stores over contents `f`. -/
def outOver (f : Vec F S64x512 .f32) (c : Dev nD) : Vec F S64x512 .f32 :=
  updateSlice (updateSlice f (outL A c) ![0, 0] slicesL) (outR A c) ![0, 256] slicesR

/-- The two stores cover the block: what was there before does not matter. -/
theorem outOver_eq (f g : Vec F S64x512 .f32) (c : Dev nD) : outOver A f c = outOver A g c := by
  funext i
  unfold outOver
  have h0 : (i 0).val < 64 := (i 0).isLt
  have h1 : (i 1).val < 512 := (i 1).isLt
  simp only [updateSlice_apply]
  split
  · rfl
  · next hn =>
    split
    · rfl
    · next hn' =>
      exfalso
      by_cases h : (i 1).val < 256
      · refine hn' fun a => ?_
        fin_cases a
        · exact ⟨Nat.zero_le _, by show (i 0).val < 0 + 64; omega⟩
        · exact ⟨Nat.zero_le _, by show (i 1).val < 0 + 256; omega⟩
      · refine hn fun a => ?_
        fin_cases a
        · exact ⟨Nat.zero_le _, by show (i 0).val < 0 + 64; omega⟩
        · exact ⟨by show 256 ≤ (i 1).val; omega, by show (i 1).val < 256 + 256; omega⟩

/-- Device `c`'s result block. -/
def outVal (c : Dev nD) : Vec F S64x512 .f32 := outOver A (fun _ => FloatOps.ofBits .f32 0) c

end Slots

end Cert.MlpProof
-- ==== Proof.Proto.lean ====
/-
The exchange protocol of the kernel.

Every exchange `e : Bool × Fin 6` (a hidden slot, `false`, or a result slot, `true`) has on every device one send cell and
one receive cell; a device has besides one barrier cell. Each cell has one round: the barrier's round takes two units, one
paid by each peer together with the landing slots the payer lends; a send cell's round returns the sent slot; a receive
cell's round hands over the landing slot holding the peer's value. This module fixes the cells, the schedule of the
rounds, what every device owes at launch, the levels of the waits, and the pipeline's proof data.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Tactic

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The device chains -/

theorem dev1_eq (c : Dev nD) : (⟨k0_dev1 c, k0_dev1_lt c⟩ : Dev nD) = yP c := Fin.ext (k0_dev1_eq c)
theorem dev2_eq (c : Dev nD) : (⟨k0_dev2 c, k0_dev2_lt c⟩ : Dev nD) = xP c := Fin.ext (k0_dev2_eq c)
theorem dev3_eq (c : Dev nD) : (⟨k0_dev3 c, k0_dev3_lt c⟩ : Dev nD) = yP c := Fin.ext (k0_dev3_eq c)
theorem dev4_eq (c : Dev nD) : (⟨k0_dev4 c, k0_dev4_lt c⟩ : Dev nD) = yP c := Fin.ext (k0_dev4_eq c)
theorem dev5_eq (c : Dev nD) : (⟨k0_dev5 c, k0_dev5_lt c⟩ : Dev nD) = xP c := Fin.ext (k0_dev5_eq c)
theorem dev6_eq (c : Dev nD) : (⟨k0_dev6 c, k0_dev6_lt c⟩ : Dev nD) = xP c := Fin.ext (k0_dev6_eq c)
theorem dev7_eq (c : Dev nD) : (⟨k0_dev7 c, k0_dev7_lt c⟩ : Dev nD) = yP c := Fin.ext (k0_dev7_eq c)
theorem dev8_eq (c : Dev nD) : (⟨k0_dev8 c, k0_dev8_lt c⟩ : Dev nD) = yP c := Fin.ext (k0_dev8_eq c)
theorem dev9_eq (c : Dev nD) : (⟨k0_dev9 c, k0_dev9_lt c⟩ : Dev nD) = xP c := Fin.ext (k0_dev9_eq c)
theorem dev10_eq (c : Dev nD) : (⟨k0_dev10 c, k0_dev10_lt c⟩ : Dev nD) = xP c := Fin.ext (k0_dev10_eq c)
theorem dev11_eq (c : Dev nD) : (⟨k0_dev11 c, k0_dev11_lt c⟩ : Dev nD) = yP c := Fin.ext (k0_dev11_eq c)
theorem dev12_eq (c : Dev nD) : (⟨k0_dev12 c, k0_dev12_lt c⟩ : Dev nD) = yP c := Fin.ext (k0_dev12_eq c)
theorem dev13_eq (c : Dev nD) : (⟨k0_dev13 c, k0_dev13_lt c⟩ : Dev nD) = xP c := Fin.ext (k0_dev13_eq c)
theorem dev14_eq (c : Dev nD) : (⟨k0_dev14 c, k0_dev14_lt c⟩ : Dev nD) = xP c := Fin.ext (k0_dev14_eq c)

/-! ## Exchanges and cells -/

/-- An exchange: a hidden slot (`false`) or a result slot (`true`). -/
abbrev Ex : Type := Bool × Fin 6

/-- The place of an exchange in program order, which is also its index in the two semaphore arrays. -/
def ix (e : Ex) : ℕ := 4 * (e.2.val / 2) + e.2.val % 2 + 2 * e.1.toNat

theorem ix_lt (e : Ex) : ix e < 12 := by revert e; decide
theorem ix_inj : Function.Injective ix := by intro a b; revert a b; decide

abbrev barS : Sem sig := (SemArray.scalar (sig.barrier 0 rfl) : Sems sig S_).sem
def sS (e : Ex) : DmaSem sig := ⟨8 + ix e, by have := ix_lt e; show _ < 32; omega⟩
def rS (e : Ex) : DmaSem sig := ⟨20 + ix e, by have := ix_lt e; show _ < 32; omega⟩

/-- The cells of a device: the barrier (`none`), an exchange's send cell (`false`) or receive cell (`true`). -/
abbrev Kx : Type := Option (Bool × Ex)

/-- The scoped cells of a device, and all its cells. -/
def dsem (k : Bool × Ex) : SemLoc sig := match k with
  | (false, e) => .dma (sS e)
  | (true, e) => .dma (rS e)
def osem (k : Kx) : SemLoc sig := match k with
  | none => .reg barS
  | some k => dsem k

theorem sS_val (e : Ex) : (sS e).val = 8 + ix e := rfl
theorem rS_val (e : Ex) : (rS e).val = 20 + ix e := rfl

theorem dsem_inj : Function.Injective dsem := by
  rintro ⟨b, e⟩ ⟨b', e'⟩ h
  have he := ix_lt e; have he' := ix_lt e'
  cases b <;> cases b' <;> simp only [dsem, SemLoc.dma.injEq] at h <;> have h' := congrArg Fin.val h
  · rw [sS_val, sS_val] at h'; rw [ix_inj (show ix e = ix e' by omega)]
  · rw [sS_val, rS_val] at h'; omega
  · rw [rS_val, sS_val] at h'; omega
  · rw [rS_val, rS_val] at h'; rw [ix_inj (show ix e = ix e' by omega)]

theorem osem_inj : Function.Injective osem := by
  rintro (_ | k) (_ | k') h
  · rfl
  · obtain ⟨b, e⟩ := k'; cases b <;> cases h
  · obtain ⟨b, e⟩ := k; cases b <;> cases h
  · rw [dsem_inj (show dsem k = dsem k' from h)]

/-- The cell a semaphore is, if it is one of the kernel's. -/
def cellIx (s : SemLoc sig) : Option Kx := Function.partialInv osem s
theorem cellIx_osem (k : Kx) : cellIx (osem k) = some k := Function.partialInv_left osem_inj k

abbrev kcell (ck : Dev nD × Kx) : GSem nD τ sig := ((ck.1 : Thread nD τ), osem ck.2)
abbrev barCell (c : Dev nD) : GSem nD τ sig := ((c : Thread nD τ), .reg barS)
abbrev sendCell (c : Dev nD) (e : Ex) : GSem nD τ sig := ((c : Thread nD τ), .dma (sS e))
abbrev recvCell (c : Dev nD) (e : Ex) : GSem nD τ sig := ((c : Thread nD τ), .dma (rS e))

theorem cellIx_bar : cellIx (.reg barS) = some none := cellIx_osem none
theorem cellIx_send (e : Ex) : cellIx (.dma (sS e)) = some (some (false, e)) := cellIx_osem (some (false, e))
theorem cellIx_recv (e : Ex) : cellIx (.dma (rS e)) = some (some (true, e)) := cellIx_osem (some (true, e))

/-! ## The slots -/

abbrev hsM : Memref sig .tc .vmem S6x64x512 .bf16 := Memref.whole cc0_scratch0
abbrev hrM : Memref sig .tc .vmem S6x64x512 .bf16 := Memref.whole cc0_scratch1
abbrev osM : Memref sig .tc .vmem S6x64x256 .bf16 := Memref.whole cc0_scratch2
abbrev orM : Memref sig .tc .vmem S6x64x256 .bf16 := Memref.whole cc0_scratch3

theorem inbH (k : Fin 6) : ∀ a, (![k.val, 0, 0] : Fin 3 → ℕ) a + S1x64x512.size a ≤ S6x64x512.size a := by revert k; decide
theorem inbO (k : Fin 6) : ∀ a, (![k.val, 0, 0] : Fin 3 → ℕ) a + S1x64x256.size a ≤ S6x64x256.size a := by revert k; decide

/-- Slot `k` of a hidden buffer, of a result buffer. -/
abbrev rH (k : Fin 6) : Rect S6x64x512 := Rect.unit (s := S6x64x512) ![k.val, 0, 0] S1x64x512.size (inbH k)
abbrev rO (k : Fin 6) : Rect S6x64x256 := Rect.unit (s := S6x64x256) ![k.val, 0, 0] S1x64x256.size (inbO k)

abbrev hS (k : Fin 6) : Memref sig .tc .vmem S1x64x512 .bf16 := hsM.slice (rH k) (fun _ => rfl)
abbrev hR (k : Fin 6) : Memref sig .tc .vmem S1x64x512 .bf16 := hrM.slice (rH k) (fun _ => rfl)
abbrev oS (k : Fin 6) : Memref sig .tc .vmem S1x64x256 .bf16 := osM.slice (rO k) (fun _ => rfl)
abbrev oR (k : Fin 6) : Memref sig .tc .vmem S1x64x256 .bf16 := orM.slice (rO k) (fun _ => rfl)

abbrev hSq (M : Memref sig .tc .vmem S1x64x512 .bf16) : Memref sig .tc .vmem S64x512 .bf16 := M.squeeze S64x512 squeezes_S1x64x512_S64x512
abbrev oSq (M : Memref sig .tc .vmem S1x64x256 .bf16) : Memref sig .tc .vmem S64x256 .bf16 := M.squeeze S64x256 squeezes_S1x64x256_S64x256

/-- The credit of one transfer of each kind. -/
def amt (b : Bool) : ℕ := match b with
  | false => RefSig.tileCredit S64x512 .bf16
  | true => RefSig.tileCredit S64x256 .bf16
theorem amt_pos (b : Bool) : 0 < amt b := by
  cases b
  · exact RefSig.tileCredit_pos _ _ (by decide)
  · exact RefSig.tileCredit_pos _ _ (by decide)
theorem credit_h (v : View sig .tc .vmem S64x512 .bf16) : v.dmaCredit = amt false := rfl
theorem credit_o (v : View sig .tc .vmem S64x256 .bf16) : v.dmaCredit = amt true := rfl

/-- A send slot, a landing slot of device `c`, holding anything. -/
def sAny (e : Ex) (c : Dev nD) : sProp 𝕄 := match e with
  | (false, k) => iprop(∃ v, owns (c : Thread nD τ) (hS k) fullShare v)
  | (true, k) => iprop(∃ v, owns (c : Thread nD τ) (oS k) fullShare v)
def rAny (e : Ex) (c : Dev nD) : sProp 𝕄 := match e with
  | (false, k) => iprop(∃ v, owns (c : Thread nD τ) (hR k) fullShare v)
  | (true, k) => iprop(∃ v, owns (c : Thread nD τ) (oR k) fullShare v)

section Vals
variable (A : Args F)

/-- A send slot of device `c` holding its value; a landing slot of device `c` holding the peer's. -/
def sVal (e : Ex) (c : Dev nD) : sProp 𝕄 := match e with
  | (false, k) => owns (c : Thread nD τ) (hS k) fullShare (hVal A k c)
  | (true, k) => owns (c : Thread nD τ) (oS k) fullShare (oVal A k c)
def rVal (e : Ex) (c : Dev nD) : sProp 𝕄 := match e with
  | (false, k) => owns (c : Thread nD τ) (hR k) fullShare (hVal A k (yP c))
  | (true, k) => owns (c : Thread nD τ) (oR k) fullShare (oVal A k (xP c))

theorem sVal_any (e : Ex) (c : Dev nD) : sVal A e c ⊢ sAny e c := by
  obtain ⟨b, k⟩ := e
  cases b <;> (unfold sVal sAny; iintro H; iexists _; iexact H)
theorem rVal_any (e : Ex) (c : Dev nD) : rVal A e c ⊢ rAny e c := by
  obtain ⟨b, k⟩ := e
  cases b <;> (unfold rVal rAny; iintro H; iexists _; iexact H)

omit [FloatOps F] in
instance rAny_storable (e : Ex) (c : Dev nD) : BI.Storable (upEmb : UEmb _ 𝕄) (rAny (F := F) e c) := by
  obtain ⟨b, k⟩ := e
  cases b <;> (unfold rAny; infer_instance)
instance sVal_storable (e : Ex) (c : Dev nD) : BI.Storable (upEmb : UEmb _ 𝕄) (sVal A e c) := by
  obtain ⟨b, k⟩ := e
  cases b <;> (unfold sVal; infer_instance)
instance rVal_storable (e : Ex) (c : Dev nD) : BI.Storable (upEmb : UEmb _ 𝕄) (rVal A e c) := by
  obtain ⟨b, k⟩ := e
  cases b <;> (unfold rVal; infer_instance)

/-! ## The schedule -/

/-- What a device's barrier round hands over for its duty `b`: the landing slots of kind `b` of the peer of kind `b`. -/
def barPay (b : Bool) (c : Dev nD) : sProp 𝕄 := bigSep Finset.univ fun k : Fin 6 => rAny (b, k) (peer b c)

omit [FloatOps F] in
instance barPay_storable (b : Bool) (c : Dev nD) : BI.Storable (upEmb : UEmb _ 𝕄) (barPay (F := F) b c) := by unfold barPay; infer_instance

def exRd : Rounds.Schedule (GSem nD τ sig) Bool 𝕄 where
  duties g r := if r = 0 ∧ g.1.2 = .tc then
      match cellIx g.2 with
      | some none => Finset.univ
      | some (some _) => {false}
      | none => ∅
    else ∅
  unitless _ := False
  amount g _ _ := match cellIx g.2 with
    | some (some (_, e)) => amt e.1
    | _ => 1
  payload g _ d := match cellIx g.2 with
    | some none => barPay d g.1.1
    | some (some (false, e)) => sVal A e g.1.1
    | some (some (true, e)) => rVal A e g.1.1
    | none => iprop(emp)
  amount_pos g _ _ _ := by
    split
    · exact amt_pos _
    · exact Nat.one_pos

instance exRd_payload_storable (g : GSem nD τ sig) (r : ℕ) (d : Bool) :
    BI.Storable (upEmb : UEmb _ 𝕄) ((exRd A).payload g r d) := by
  dsimp only [exRd]
  split <;> infer_instance

section Sched
variable (c : Dev nD) (e : Ex)

theorem duties_bar : (exRd A).duties (barCell c) 0 = Finset.univ := by
  dsimp only [exRd]; rw [if_pos ⟨rfl, rfl⟩, cellIx_bar]
theorem duties_send : (exRd A).duties (sendCell c e) 0 = {false} := by
  dsimp only [exRd]; rw [if_pos ⟨rfl, rfl⟩, cellIx_send]
theorem duties_recv : (exRd A).duties (recvCell c e) 0 = {false} := by
  dsimp only [exRd]; rw [if_pos ⟨rfl, rfl⟩, cellIx_recv]
theorem duties_later (g : GSem nD τ sig) : ∀ r, 1 ≤ r → (exRd A).duties g r = ∅ :=
  fun r hr => by dsimp only [exRd]; rw [if_neg fun h => by omega]

theorem amount_bar (d : Bool) : (exRd A).amount (barCell c) 0 d = 1 := by dsimp only [exRd]; rw [cellIx_bar]
theorem amount_send (d : Bool) : (exRd A).amount (sendCell c e) 0 d = amt e.1 := by dsimp only [exRd]; rw [cellIx_send]
theorem amount_recv (d : Bool) : (exRd A).amount (recvCell c e) 0 d = amt e.1 := by dsimp only [exRd]; rw [cellIx_recv]

theorem expect_bar : (exRd A).expect (barCell c) 0 = 2 := by
  unfold Schedule.expect Schedule.amountOf
  rw [duties_bar, Finset.sum_congr rfl fun d _ => amount_bar A c d, Finset.sum_const, Finset.card_univ, Fintype.card_bool, smul_eq_mul]
theorem expect_send : (exRd A).expect (sendCell c e) 0 = amt e.1 := by
  unfold Schedule.expect Schedule.amountOf; rw [duties_send, Finset.sum_singleton, amount_send]
theorem expect_recv : (exRd A).expect (recvCell c e) 0 = amt e.1 := by
  unfold Schedule.expect Schedule.amountOf; rw [duties_recv, Finset.sum_singleton, amount_recv]

theorem payload_bar (d : Bool) : (exRd A).payload (barCell c) 0 d = barPay d c := by dsimp only [exRd]; rw [cellIx_bar]
theorem payload_send (d : Bool) : (exRd A).payload (sendCell c e) 0 d = sVal A e c := by dsimp only [exRd]; rw [cellIx_send]
theorem payload_recv (d : Bool) : (exRd A).payload (recvCell c e) 0 d = rVal A e c := by dsimp only [exRd]; rw [cellIx_recv]

theorem rest_bar : bigSep ((exRd A).duties (barCell c) 0 \ ∅) (fun d => (exRd A).payload (barCell c) 0 d)
    = iprop(barPay false c ∗ barPay true c) := by
  rw [Finset.sdiff_empty, duties_bar, bigSep_univ_eq_bigSepL [false, true] (by decide) (by decide), bigSepL_cons_cons, bigSepL_singleton,
    payload_bar, payload_bar]
  rfl
theorem rest_send : bigSep ((exRd A).duties (sendCell c e) 0 \ ∅) (fun d => (exRd A).payload (sendCell c e) 0 d) = sVal A e c := by
  rw [Finset.sdiff_empty, duties_send, bigSep_singleton, payload_send]
theorem rest_recv : bigSep ((exRd A).duties (recvCell c e) 0 \ ∅) (fun d => (exRd A).payload (recvCell c e) 0 d) = rVal A e c := by
  rw [Finset.sdiff_empty, duties_recv, bigSep_singleton, payload_recv]

end Sched

end Vals

/-! ## What each core owes; the levels -/

/-- What device `c` owes before its transfer number `n`: to the peer of each exchange still to come, its credit. -/
def owed (n : ℕ) (c : Dev nD) : CellTallies nD τ sig Unit :=
  ∑ e : Ex with n ≤ ix e, tallyAt (recvCell (peer e.1 c) e) () (amt e.1)

/-- At launch it owes besides one unit to each peer's barrier cell: the first signal pays the last summand. -/
def owed₁ (c : Dev nD) : CellTallies nD τ sig Unit := owed 0 c + tallyAt (barCell (xP c)) () 1
def owed₀ (c : Dev nD) : CellTallies nD τ sig Unit := owed₁ c + tallyAt (barCell (yP c)) () 1

theorem owed_succ (e : Ex) (c : Dev nD) : owed (ix e) c = owed (ix e + 1) c + tallyAt (recvCell (peer e.1 c) e) () (amt e.1) := by
  unfold owed
  have : (Finset.univ.filter fun e' : Ex => ix e ≤ ix e') = insert e (Finset.univ.filter fun e' : Ex => ix e + 1 ≤ ix e') := by
    ext e'
    simp only [Finset.mem_filter, Finset.mem_univ, true_and, Finset.mem_insert]
    constructor
    · intro h
      rcases Nat.lt_or_ge (ix e) (ix e') with h' | h'
      · exact .inr h'
      · exact .inl (ix_inj (by omega))
    · rintro (rfl | h) <;> omega
  rw [this, Finset.sum_insert (by simp), add_comm]

theorem owed_last (c : Dev nD) : owed 12 c = 0 := by
  unfold owed
  rw [Finset.filter_false_of_mem fun e _ => by have := ix_lt e; omega, Finset.sum_empty]

def L (g : GSem nD τ sig) : Finset Unit := if g.1.2 = .tc then {()} else ∅
/-- Send and staging cells at 0, barrier cells at 1, the receive cells above them in program order. -/
def lv (g : GSem nD τ sig) (_ : Unit) : ℕ := match cellIx g.2 with
  | some none => 1
  | some (some (true, e)) => ix e + 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [cellIx_bar]
theorem lv_send (c : Dev nD) (e : Ex) (u : Unit) : lv (sendCell c e) u = 0 := by dsimp only [lv]; rw [cellIx_send]
theorem lv_recv (c : Dev nD) (e : Ex) (u : Unit) : lv (recvCell c e) u = ix e + 2 := by dsimp only [lv]; rw [cellIx_recv]

theorem owed_pos {n : ℕ} {c : Dev nD} {g : GSem nD τ sig} {u : Unit} (h : 0 < owed n c g u) :
    ∃ e : Ex, n ≤ ix e ∧ g = recvCell (peer e.1 c) e := by
  unfold owed at h
  rw [Finset.sum_apply, Finsupp.finset_sum_apply] at h
  obtain ⟨e, he, hpos⟩ := Finset.exists_ne_zero_of_sum_ne_zero (Nat.pos_iff_ne_zero.mp h)
  refine ⟨e, (Finset.mem_filter.mp he).2, ?_⟩
  rw [tallyAt_apply] at hpos
  by_contra hn
  exact hpos (if_neg fun h' => hn h'.1)

theorem owed₀_pos {c : Dev nD} {g : GSem nD τ sig} {u : Unit} (h : 0 < owed₀ c g u) :
    (∃ e : Ex, g = recvCell (peer e.1 c) e) ∨ g = barCell (xP c) ∨ g = barCell (yP c) := by
  unfold owed₀ owed₁ at h
  rw [Pi.add_apply, Finsupp.add_apply, Pi.add_apply, Finsupp.add_apply, tallyAt_apply, tallyAt_apply] at h
  by_contra hn
  obtain ⟨h1, h2⟩ := not_or.mp hn
  rw [not_or] at h2
  rw [if_neg (fun h' => h2.1 h'.1), if_neg (fun h' => h2.2 h'.1)] at h
  simp only [Nat.add_zero] at h
  obtain ⟨e, _, he⟩ := owed_pos h
  exact h1 ⟨e, he⟩

omit [FloatOps F] in
/-- A wait at level `k` is allowed while only transfers at higher levels are owed. -/
theorem mayWait_owed (c : Dev nD) (sm : SemLoc sig) (k n : ℕ) (hk : lv ((c : Thread nD τ), sm) () ≤ k) (hn : k < n + 2) :
    (levAts L lv : sProp 𝕄) ⊢ MayWait (c : Thread nD τ) sm () (owed n c) :=
  MayOwe.of_cut (L := L) (lev := lv) k (fun p hp => by rw [Finset.mem_singleton.mp hp, L_tc]; exact Finset.mem_singleton_self _)
    (fun g u hg => by obtain ⟨e, _, rfl⟩ := owed_pos hg; exact Finset.mem_singleton_self _)
    (fun p hp => by rw [Finset.mem_singleton.mp hp]; exact hk)
    (fun g u hg => by obtain ⟨e, he, rfl⟩ := owed_pos hg; rw [lv_recv]; omega)

omit [FloatOps F] in
/-- The pipeline's waits on its staging cells, at launch and at the end. -/
theorem mayWait_stage (c : Dev nD) (q : DmaSem sig) (hq : lv ((c : Thread nD τ), .dma q) () = 0) (O : CellTallies nD τ sig Unit)
    (hO : O = owed₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed₀_pos hg with ⟨e, rfl⟩ | rfl | rfl <;> exact Finset.mem_singleton_self _)
      (fun p hp => by rw [Finset.mem_singleton.mp hp]; exact le_of_eq hq)
      (fun g u hg => by
        rcases owed₀_pos hg with ⟨e, rfl⟩ | rfl | rfl
        · rw [lv_recv]; omega
        · rw [lv_bar]; omega
        · rw [lv_bar]; omega)
  · rw [MayWait_zero]; iintro -; iempintro

end Cert.MlpProof
-- ==== Proof.Rules.lean ====
/-
The rules of the exchange: one statement per kind of instruction the body executes.

The state of an exchange on one device goes through five bundles: `pend` (nothing sent yet), `stored` (the send slot
holds its value), `fly` (the transfer is issued), `half` (its send wait is over), `done` (the peer's value has landed).
Every rule below takes the bundle an instruction needs and gives the bundle it leaves.
-/
module

public import proofs.«01_k».proof.Proof.Proto
public import Idealize.ShloMosaic.Lib.ViewIndex

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Reading and writing a slice of a buffer -/

section Slab
variable {sh s' : Shape} {e : EltTy} (M : Memref sig .tc .vmem sh e) (r : Rect sh) (hr : ∀ a, r.stride a = 1)

/-- A load through a rectangle of an owned slice reads the slice's contents. -/
theorem wp_load_slab (c : Dev nD) (X : r.shape.Idx → Elt F e) {hl : M.view.LoadsAt r.toLoadRect}
    {α : Type} {Q : α → sProp 𝕄} {k : (r.shape.Idx → Elt F e) → Prog (TpuEff nD τ sig (Elt F) Λ₀ .tc) α} :
    (owns (c : Thread nD τ) (M.slice r hr) fullShare X : sProp 𝕄)
      ⊢ iprop((owns (c : Thread nD τ) (M.slice r hr) fullShare X -∗ wp frame (wpE (defs₀ (F := F)) 𝒱₀ (c : Thread nD τ) none) Set.univ (k X) Q)
          -∗ wp frame (wpE (defs₀ (F := F)) 𝒱₀ (c : Thread nD τ) none) Set.univ (.op (.load M r.toLoadRect hl) k) Q) := by
  unfold owns
  iintro ⟨%f, %hf, H⟩ Hk
  iapply (wp_load_rect 𝒱₀ (c : Thread nD τ) none Set.univ (m := M) (r := r) (S := (M.slice r hr).view.set) (f := f) (Finset.Subset.refl _)) $$ H
  iintro H
  rw [show (M.access r).read (Elt F) f = X from hf]
  iapply Hk
  iexists f
  isplitr
  · ipureintro; exact hf
  · iexact H

/-- A store through the rectangle of an owned slice leaves the slice holding what was stored. -/
theorem wp_store_slab (c : Dev nD) (X w : r.shape.Idx → Elt F e) {hx : (M.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    (owns (c : Thread nD τ) (M.slice r hr) fullShare X : sProp 𝕄)
      ⊢ iprop((owns (c : Thread nD τ) (M.slice r hr) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold owns
  iintro ⟨%f, %hf, H⟩ Hk
  iapply (wp_store 𝒱₀ (c : Thread nD τ) none Set.univ (m := M) (r := r) (S := (M.slice r hr).view.set) (f := f) (Mk := Finset.univ)
    (by show (M.view.slice r).setOn Finset.univ ⊆ (M.view.slice r).set; exact Finset.Subset.refl _)) $$ H
  iintro H
  iapply Hk
  iexists ((M.access r).write (Elt F) f w Finset.univ)
  isplitr
  · ipureintro; exact View.read_write_univ _ _
  · iexact H

end Slab

/-! ## The bundles -/

section Bundles
variable (A : Args F)

/-- The invariants of all cells, the fact that every cell reached its round, and the levels. -/
def env (K : Dev nD × Kx → ℕ) : sProp 𝕄 :=
  iprop((bigSep Finset.univ fun ck : Dev nD × Kx => iprop(cellInv ER (exRd A) (K ck) (kcell ck) ∗ reached ER (kcell ck) 0)) ∗ levAts L lv)

instance env_persistent (K : Dev nD × Kx → ℕ) : BI.Persistent (env A K) := by unfold env; infer_instance

theorem env_cell (K : Dev nD × Kx → ℕ) (ck : Dev nD × Kx) :
    env A K ⊢ iprop(cellInv ER (exRd A) (K ck) (kcell ck) ∗ reached ER (kcell ck) 0) := by
  unfold env
  exact sep_elim_left.trans (show _ ⊢ _ from bigSep_elim
    (Φ := fun ck : Dev nD × Kx => iprop(cellInv ER (exRd A) (K ck) (kcell ck) ∗ reached ER (kcell ck) 0)) (Finset.mem_univ ck))
theorem env_lev (K : Dev nD × Kx → ℕ) : env A K ⊢ levAts L lv := by
  unfold env; iintro ⟨-, H⟩; iexact H

/-- What device `c` still owes before transfer `n`, under whatever waits it has recorded. -/
def owing (n : ℕ) (c : Dev nD) : sProp 𝕄 := iprop(∃ W, owes (c : Thread nD τ) (owed n c) W)

/-- The tokens of an exchange: the duties of its two ends, the positions of its two cells, its receive credit. -/
def keys (e : Ex) (c : Dev nD) : sProp 𝕄 :=
  iprop(dutyTok ER (sendCell c e) 0 false ∗ dutyTok ER (recvCell (peer e.1 c) e) 0 false
    ∗ atPos ER (sendCell c e) 0 ∅ 0 ∗ atPos ER (recvCell c e) 0 ∅ 0 ∗ cred (tallyAt (recvCell c e) () (amt e.1)))

def pend (e : Ex) (c : Dev nD) : sProp 𝕄 := iprop(sAny e c ∗ rAny e (peer e.1 c) ∗ keys e c)
def stored (e : Ex) (c : Dev nD) : sProp 𝕄 := iprop(sVal A e c ∗ rAny e (peer e.1 c) ∗ keys e c)
def fly (e : Ex) (c : Dev nD) : sProp 𝕄 :=
  iprop(cred (tallyAt (sendCell c e) () (amt e.1)) ∗ atPos ER (sendCell c e) 0 ∅ 0 ∗ atPos ER (recvCell c e) 0 ∅ 0
    ∗ cred (tallyAt (recvCell c e) () (amt e.1)))
def half (e : Ex) (c : Dev nD) : sProp 𝕄 :=
  iprop(sVal A e c ∗ semVal (sendCell c e) 0 ∗ atPos ER (recvCell c e) 0 ∅ 0 ∗ cred (tallyAt (recvCell c e) () (amt e.1)))
def done (e : Ex) (c : Dev nD) : sProp 𝕄 :=
  iprop(sVal A e c ∗ rVal A e c ∗ semVal (sendCell c e) 0 ∗ semVal (recvCell c e) 0)

/-! ## Transfers -/

section Send
variable (K : Dev nD × Kx → ℕ)
variable {s s' : Shape} (Ms Md : Memref sig .tc .vmem s .bf16) (hsq : s.Squeezes s')

omit [FloatOps F] in
/-- What a transfer between two squeezed slots leaves: the landing slot holds the sent slot's contents. -/
theorem landed (fs : Ms.view.ty.Contents (Elt F)) (fd : Md.view.ty.Contents (Elt F)) :
    Md.view.read (Elt F) ((Md.squeeze s' hsq).view.write (Elt F) fd ((Ms.squeeze s' hsq).view.read (Elt F) fs) Finset.univ)
      = Ms.view.read (Elt F) fs := by
  funext x
  obtain ⟨y, rfl⟩ := (Shape.reshapeEquiv hsq.numel_eq).surjective x
  exact View.read_write_reshape (v := Md.view) hsq.numel_eq fd _ y

/-- A squeezed slot has the slot's elements. -/
theorem squeeze_pts (M : Memref sig .tc .vmem s .bf16) (c : Dev nD) (f : M.view.ty.Contents (Elt F)) :
    (((M.squeeze s' hsq).view.loc (c : Thread nD τ) ↦[(M.squeeze s' hsq).view.set]{fullShare} f : sProp 𝕄))
      = (M.view.loc (c : Thread nD τ) ↦[M.view.set]{fullShare} f) := by
  show (M.view.loc (c : Thread nD τ) ↦[(M.view.reshape s' hsq.numel_eq).set]{fullShare} f : sProp 𝕄) = _
  rw [View.set_reshape]

/-- The transfer of exchange `e` from slot `Ms` to the peer's slot `Md`. -/
theorem send_core (e : Ex) (c n : Dev nD) (hn : n = peer e.1 c) (v : s.Idx → Elt F .bf16)
    (hs : sVal A e c = owns (c : Thread nD τ) Ms fullShare v)
    (hr : rVal A e (peer e.1 c) = owns (peer e.1 c : Thread nD τ) Md fullShare v)
    (ha : rAny e (peer e.1 c) = (iprop(∃ v, owns (peer e.1 c : Thread nD τ) Md fullShare v) : sProp 𝕄))
    (hN : (Md.squeeze s' hsq).view.dmaCredit = amt e.1)
    (src dst : Memref sig .tc .vmem s' .bf16) (hsrc' : src = Ms.squeeze s' hsq) (hdst' : dst = Md.squeeze s' hsq)
    (q q' : DmaSem sig) (hq : q = sS e) (hq' : q' = rS e)
    {hsc : (dst : Memref sig (Dev.tc n : Thread nD τ).2.kind .vmem s' .bf16).view.ref.isScScratch = false}
    {hsrc : src.view.WordExact} {hdst : dst.view.WordExact}
    {hsem : DmaTarget.Typed .vmem (.dma q') (.remote (Dev.tc n : Thread nD τ) dst (.dma q) hsc)}
    {α : Type} {Q : α → sProp 𝕄} {k : PUnit → Prog (TpuEff nD τ sig (Elt F) Λ₀ .tc) α} :
    iprop(env A K ∗ stored A e c ∗ owing (ix e) c)
      ⊢ iprop(((fly e c ∗ owing (ix e + 1) c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma q) hsc) (.dma q') hsrc hdst hsem) k) Q) := by
  subst hn hsrc' hdst' hq hq'
  unfold stored keys owing
  rw [hs, ha]
  unfold owns
  iintro ⟨#HE, ⟨⟨%fs, %hfs, Hs⟩, ⟨%w, %fd, %hfd, Hr⟩, Hts, Htr, Has, Har, Hc⟩, %W, HO⟩ Hk
  ihave #HS := (env_cell A K (c, some (false, e))) $$ HE
  ihave #HR := (env_cell A K (peer e.1 c, some (true, e))) $$ HE
  icases HS with ⟨#HIs, #Hrs⟩
  icases HR with ⟨#HIr, #Hrr⟩
  iapply (Rounds.wp_send_pointsTo 𝒱₀ ER (exRd A) (c : Thread nD τ) none (c' := (peer e.1 c : Thread nD τ)) (src := Ms.squeeze s' hsq) (dst := Md.squeeze s' hsq)
      (sS := .dma (sS e)) (sem := .dma (rS e)) (κ₁ := K (c, some (false, e))) (κ₂ := K (peer e.1 c, some (true, e)))
      (r₁ := 0) (r₂ := 0) (d₁ := false) (d₂ := false) (fs := fs) (fd := fd)
      (by rw [duties_send]; exact Finset.mem_singleton_self _) (by rw [duties_recv]; exact Finset.mem_singleton_self _)
      () () (amt e.1) hN (amount_send A c e false) (amount_recv A (peer e.1 c) e false) (owed (ix e + 1) c) (owed_succ e c) (W := W)
      (by
        rw [payload_send, hs]; unfold owns
        iintro H; iexists fs; isplitr
        · ipureintro; exact hfs
        · iapply (Entails.of_eq (squeeze_pts hsq Ms c fs)); iexact H)
      (by
        rw [payload_recv, hr]; unfold owns
        iintro H; iexists ((Md.squeeze s' hsq).view.write (Elt F) fd ((Ms.squeeze s' hsq).view.read (Elt F) fs) Finset.univ); isplitr
        · ipureintro; exact (landed Ms Md hsq fs fd).trans hfs
        · iapply (Entails.of_eq (squeeze_pts hsq Md (peer e.1 c) _)); iexact H)) $$ [Hs Hr HO Hts Htr]
  · isplitr; · iexact HIs
    isplitr; · iexact HIr
    isplitl [Hs]; · iapply (Entails.of_eq (squeeze_pts hsq Ms c fs).symm); iexact Hs
    isplitl [Hr]; · iapply (Entails.of_eq (squeeze_pts hsq Md (peer e.1 c) fd).symm); iexact Hr
    isplitl [HO]; · iexact HO
    isplitl [Hts]; · iexact Hts
    isplitr; · iexact Hrs
    isplitl [Htr]; · iexact Htr
    iexact Hrr
  iintro ⟨Hcs, HO⟩
  iapply Hk
  unfold fly
  isplitr [HO]
  · isplitl [Hcs]; · iexact Hcs
    isplitl [Has]; · iexact Has
    isplitl [Har] <;> iassumption
  iexists W; iexact HO

end Send

section Ops
variable (K : Dev nD × Kx → ℕ)

/-- The transfer of a hidden slot to the device that differs in `y`. -/
theorem send_h (i : Fin 6) (c n : Dev nD) (hn : n = yP c) (src dst : Memref sig .tc .vmem S64x512 .bf16)
    (hsrc' : src = hSq (hS i)) (hdst' : dst = hSq (hR i))
    (q q' : DmaSem sig) (hq : q = sS (false, i)) (hq' : q' = rS (false, i))
    {hsc : (dst : Memref sig (Dev.tc n : Thread nD τ).2.kind .vmem S64x512 .bf16).view.ref.isScScratch = false}
    {hsrc : src.view.WordExact} {hdst : dst.view.WordExact}
    {hsem : DmaTarget.Typed .vmem (.dma q') (.remote (Dev.tc n : Thread nD τ) dst (.dma q) hsc)}
    {α : Type} {Q : α → sProp 𝕄} {k : PUnit → Prog (TpuEff nD τ sig (Elt F) Λ₀ .tc) α} :
    iprop(env A K ∗ stored A (false, i) c ∗ owing (ix (false, i)) c)
      ⊢ iprop(((fly (false, i) c ∗ owing (ix (false, i) + 1) c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma q) hsc) (.dma q') hsrc hdst hsem) k) Q) :=
  send_core A K (hS i) (hR i) squeezes_S1x64x512_S64x512 (false, i) c n hn (hVal A i c) rfl
    (by show owns _ _ _ (hVal A i (yP (yP c))) = _; rw [yP_yP]) rfl (credit_h _) src dst hsrc' hdst' q q' hq hq'

/-- The transfer of a result slot to the device that differs in `x`. -/
theorem send_o (i : Fin 6) (c n : Dev nD) (hn : n = xP c) (src dst : Memref sig .tc .vmem S64x256 .bf16)
    (hsrc' : src = oSq (oS i)) (hdst' : dst = oSq (oR i))
    (q q' : DmaSem sig) (hq : q = sS (true, i)) (hq' : q' = rS (true, i))
    {hsc : (dst : Memref sig (Dev.tc n : Thread nD τ).2.kind .vmem S64x256 .bf16).view.ref.isScScratch = false}
    {hsrc : src.view.WordExact} {hdst : dst.view.WordExact}
    {hsem : DmaTarget.Typed .vmem (.dma q') (.remote (Dev.tc n : Thread nD τ) dst (.dma q) hsc)}
    {α : Type} {Q : α → sProp 𝕄} {k : PUnit → Prog (TpuEff nD τ sig (Elt F) Λ₀ .tc) α} :
    iprop(env A K ∗ stored A (true, i) c ∗ owing (ix (true, i)) c)
      ⊢ iprop(((fly (true, i) c ∗ owing (ix (true, i) + 1) c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma q) hsc) (.dma q') hsrc hdst hsem) k) Q) :=
  send_core A K (oS i) (oR i) squeezes_S1x64x256_S64x256 (true, i) c n hn (oVal A i c) rfl
    (by show owns _ _ _ (oVal A i (xP (xP c))) = _; rw [xP_xP]) rfl (credit_o _) src dst hsrc' hdst' q q' hq hq'

/-- The wait for the send end of exchange `e`: the sent slot comes back and the send cell closes at zero. -/
theorem wait_send (e : Ex) (n : ℕ) (c : Dev nD) {s : Shape} {src dst : Memref sig .tc .vmem s .bf16} (hN : dst.view.dmaCredit = amt e.1)
    (q : DmaSem sig) (hq : q = sS e) {hsrc : src.view.WordExact} {hdst : dst.view.WordExact}
    {α : Type} {Q : α → sProp 𝕄} {k : PUnit → Prog (TpuEff nD τ sig (Elt F) Λ₀ .tc) α} :
    iprop(env A K ∗ fly e c ∗ owing n c)
      ⊢ iprop(((half A e c ∗ owing n c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold fly owing
  iintro ⟨#HE, ⟨Hcs, Has, Har, Hc⟩, %W, HO⟩ Hk
  ihave #HS := (env_cell A K (c, some (false, e))) $$ HE
  icases HS with ⟨#HIs, -⟩
  ihave #Hlev := (env_lev A K) $$ HE
  iapply (Rounds.wp_wait_rest_token 𝒱₀ ER (exRd A) (c : Thread nD τ) none (κ := K (c, some (false, e)))
      (wpE_waitDma2_eq 𝒱₀ (c : Thread nD τ) none Set.univ) (Set.mem_univ _) () (O := owed n c) (W := W) (R := 0) (m := 0) (T := ∅)
      (by rw [Nat.zero_add, hN, expect_send A c e])) $$ [Hcs HO Has]
  · isplitr; · iexact HIs
    isplitl [Hcs]; · rw [hN]; iexact Hcs
    isplitl [HO]; · iexact HO
    isplitr; · iapply (mayWait_owed c (.dma (sS e)) 0 n (le_of_eq (lv_send c e ())) (by omega)); iexact Hlev
    iexact Has
  iintro ⟨HO, Has, -, Hpay⟩
  ihave Hs := (Entails.of_eq (rest_send A c e)) $$ Hpay
  imod (Rounds.cell_close ER (exRd A) (Set.mem_univ (K (c, some (false, e)))) (fun h => h) (R := 0 + 1) (duties_later A (sendCell c e))) $$ [Has] with Hz
  · isplitr; · iexact HIs
    iexact Has
  iapply Hk
  unfold half
  isplitr [HO]
  · isplitl [Hs]; · iexact Hs
    isplitl [Hz]; · iexact Hz
    isplitl [Har] <;> iassumption
  iexists _; iexact HO

/-- The wait for the receive end of exchange `e`, while only later transfers are owed: the peer's value has landed and the
    receive cell closes at zero. -/
theorem wait_recv (e : Ex) (n : ℕ) (hn : ix e < n) (c : Dev nD) {s : Shape} {src dst : Memref sig .tc .vmem s .bf16}
    (hN : dst.view.dmaCredit = amt e.1) (q : DmaSem sig) (hq : q = rS e) {hsrc : src.view.WordExact} {hdst : dst.view.WordExact}
    {α : Type} {Q : α → sProp 𝕄} {k : PUnit → Prog (TpuEff nD τ sig (Elt F) Λ₀ .tc) α} :
    iprop(env A K ∗ half A e c ∗ owing n c)
      ⊢ iprop(((done A e c ∗ owing n c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold half owing
  iintro ⟨#HE, ⟨Hs, Hz, Har, Hc⟩, %W, HO⟩ Hk
  ihave #HR := (env_cell A K (c, some (true, e))) $$ HE
  icases HR with ⟨#HIr, -⟩
  ihave #Hlev := (env_lev A K) $$ HE
  iapply (Rounds.wp_wait_rest_token 𝒱₀ ER (exRd A) (c : Thread nD τ) none (κ := K (c, some (true, e)))
      (wpE_waitDma2_eq 𝒱₀ (c : Thread nD τ) none Set.univ) (Set.mem_univ _) () (O := owed n c) (W := W) (R := 0) (m := 0) (T := ∅)
      (by rw [Nat.zero_add, hN, expect_recv A c e])) $$ [Hc HO Har]
  · isplitr; · iexact HIr
    isplitl [Hc]; · rw [hN]; iexact Hc
    isplitl [HO]; · iexact HO
    isplitr; · iapply (mayWait_owed c (.dma (rS e)) (ix e + 2) n (le_of_eq (lv_recv c e ())) (by omega)); iexact Hlev
    iexact Har
  iintro ⟨HO, Har, -, Hpay⟩
  ihave Hr := (Entails.of_eq (rest_recv A c e)) $$ Hpay
  imod (Rounds.cell_close ER (exRd A) (Set.mem_univ (K (c, some (true, e)))) (fun h => h) (R := 0 + 1) (duties_later A (recvCell c e))) $$ [Har] with Hz'
  · isplitr; · iexact HIr
    iexact Har
  iapply Hk
  unfold done
  isplitr [HO]
  · isplitl [Hs]; · iexact Hs
    isplitl [Hr]; · iexact Hr
    isplitl [Hz] <;> iassumption
  iexists _; iexact HO

/-- The waits by kind of slot: the first names the sent slot, the second the landing slot. -/
theorem wait_send_h (i : Fin 6) (n : ℕ) (c : Dev nD) {src : Memref sig .tc .vmem S64x512 .bf16} {hsrc : src.view.WordExact}
    {hdst : (hSq (hS i)).view.WordExact} {α : Type} {Q : α → sProp 𝕄} {k : PUnit → Prog (TpuEff nD τ sig (Elt F) Λ₀ .tc) α} :
    iprop(env A K ∗ fly (false, i) c ∗ owing n c)
      ⊢ iprop(((half A (false, i) c ∗ owing n c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sS (false, i)) src (hSq (hS i)) hsrc hdst) k) Q) :=
  wait_send A K (false, i) n c (credit_h _) _ rfl
theorem wait_send_o (i : Fin 6) (n : ℕ) (c : Dev nD) {src : Memref sig .tc .vmem S64x256 .bf16} {hsrc : src.view.WordExact}
    {hdst : (oSq (oS i)).view.WordExact} {α : Type} {Q : α → sProp 𝕄} {k : PUnit → Prog (TpuEff nD τ sig (Elt F) Λ₀ .tc) α} :
    iprop(env A K ∗ fly (true, i) c ∗ owing n c)
      ⊢ iprop(((half A (true, i) c ∗ owing n c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sS (true, i)) src (oSq (oS i)) hsrc hdst) k) Q) :=
  wait_send A K (true, i) n c (credit_o _) _ rfl
theorem wait_recv_h (i : Fin 6) (n : ℕ) (hn : ix (false, i) < n) (c : Dev nD) {src : Memref sig .tc .vmem S64x512 .bf16} {hsrc : src.view.WordExact}
    {hdst : (hSq (hR i)).view.WordExact} {α : Type} {Q : α → sProp 𝕄} {k : PUnit → Prog (TpuEff nD τ sig (Elt F) Λ₀ .tc) α} :
    iprop(env A K ∗ half A (false, i) c ∗ owing n c)
      ⊢ iprop(((done A (false, i) c ∗ owing n c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rS (false, i)) src (hSq (hR i)) hsrc hdst) k) Q) :=
  wait_recv A K (false, i) n hn c (credit_h _) _ rfl
theorem wait_recv_o (i : Fin 6) (n : ℕ) (hn : ix (true, i) < n) (c : Dev nD) {src : Memref sig .tc .vmem S64x256 .bf16} {hsrc : src.view.WordExact}
    {hdst : (oSq (oR i)).view.WordExact} {α : Type} {Q : α → sProp 𝕄} {k : PUnit → Prog (TpuEff nD τ sig (Elt F) Λ₀ .tc) α} :
    iprop(env A K ∗ half A (true, i) c ∗ owing n c)
      ⊢ iprop(((done A (true, i) c ∗ owing n c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rS (true, i)) src (oSq (oR i)) hsrc hdst) k) Q) :=
  wait_recv A K (true, i) n hn c (credit_o _) _ rfl

/-! ## Loads and stores of the slots -/

/-- The load of a send slot whose contents the body does not use. -/
theorem load_pend_h (i : Fin 6) (c : Dev nD) {hl : hsM.view.LoadsAt (rH i).toLoadRect} {α : Type} {Q : α → sProp 𝕄} {k : Vec F S1x64x512 .bf16 → Prog (TpuEff nD τ sig (Elt F) Λ₀ .tc) α} :
    (pend (false, i) c : sProp 𝕄)
      ⊢ iprop((∀ v, pend (false, i) c -∗ wp frame (wpE (defs₀ (F := F)) 𝒱₀ (c : Thread nD τ) none) Set.univ (k v) Q)
          -∗ wp frame (wpE (defs₀ (F := F)) 𝒱₀ (c : Thread nD τ) none) Set.univ (.op (.load hsM (rH i).toLoadRect hl) k) Q) := by
  unfold pend sAny
  iintro ⟨⟨%v, Hs⟩, Hr, Hk'⟩ Hk
  iapply (wp_load_slab hsM (rH i) (fun _ => rfl) c v) $$ Hs
  iintro Hs
  iapply Hk
  isplitl [Hs]; · iexists v; iexact Hs
  isplitl [Hr] <;> iassumption
theorem load_pend_o (i : Fin 6) (c : Dev nD) {hl : osM.view.LoadsAt (rO i).toLoadRect} {α : Type} {Q : α → sProp 𝕄} {k : Vec F S1x64x256 .bf16 → Prog (TpuEff nD τ sig (Elt F) Λ₀ .tc) α} :
    (pend (true, i) c : sProp 𝕄)
      ⊢ iprop((∀ v, pend (true, i) c -∗ wp frame (wpE (defs₀ (F := F)) 𝒱₀ (c : Thread nD τ) none) Set.univ (k v) Q)
          -∗ wp frame (wpE (defs₀ (F := F)) 𝒱₀ (c : Thread nD τ) none) Set.univ (.op (.load osM (rO i).toLoadRect hl) k) Q) := by
  unfold pend sAny
  iintro ⟨⟨%v, Hs⟩, Hr, Hk'⟩ Hk
  iapply (wp_load_slab osM (rO i) (fun _ => rfl) c v) $$ Hs
  iintro Hs
  iapply Hk
  isplitl [Hs]; · iexists v; iexact Hs
  isplitl [Hr] <;> iassumption

/-- The store of an exchange's value into its send slot. -/
theorem store_h (i : Fin 6) (c : Dev nD) (w : Vec F S1x64x512 .bf16) (hw : w = hVal A i c) {hx : (hsM.access (rH i)).Stores Finset.univ}
    {hm : (Finset.univ : Finset (rH i).shape.Idx) = Finset.univ ∨ ∀ a, (rH i).stride a = 1} {α : Type} {Q : α → sProp 𝕄} {k : PUnit → Prog (TpuEff nD τ sig (Elt F) Λ₀ .tc) α} :
    (pend (false, i) c : sProp 𝕄)
      ⊢ iprop((stored A (false, i) c -∗ wp frame (wpE (defs₀ (F := F)) 𝒱₀ (c : Thread nD τ) none) Set.univ (k ⟨⟩) Q)
          -∗ wp frame (wpE (defs₀ (F := F)) 𝒱₀ (c : Thread nD τ) none) Set.univ (.op (.store hsM (rH i) w Finset.univ hx hm) k) Q) := by
  subst hw
  unfold pend sAny stored sVal
  iintro ⟨⟨%v, Hs⟩, Hr, Hk'⟩ Hk
  iapply (wp_store_slab hsM (rH i) (fun _ => rfl) c v (hVal A i c)) $$ Hs
  iintro Hs
  iapply Hk
  isplitl [Hs]; · iexact Hs
  isplitl [Hr] <;> iassumption
theorem store_o (i : Fin 6) (c : Dev nD) (w : Vec F S1x64x256 .bf16) (hw : w = oVal A i c) {hx : (osM.access (rO i)).Stores Finset.univ}
    {hm : (Finset.univ : Finset (rO i).shape.Idx) = Finset.univ ∨ ∀ a, (rO i).stride a = 1} {α : Type} {Q : α → sProp 𝕄} {k : PUnit → Prog (TpuEff nD τ sig (Elt F) Λ₀ .tc) α} :
    (pend (true, i) c : sProp 𝕄)
      ⊢ iprop((stored A (true, i) c -∗ wp frame (wpE (defs₀ (F := F)) 𝒱₀ (c : Thread nD τ) none) Set.univ (k ⟨⟩) Q)
          -∗ wp frame (wpE (defs₀ (F := F)) 𝒱₀ (c : Thread nD τ) none) Set.univ (.op (.store osM (rO i) w Finset.univ hx hm) k) Q) := by
  subst hw
  unfold pend sAny stored sVal
  iintro ⟨⟨%v, Hs⟩, Hr, Hk'⟩ Hk
  iapply (wp_store_slab osM (rO i) (fun _ => rfl) c v (oVal A i c)) $$ Hs
  iintro Hs
  iapply Hk
  isplitl [Hs]; · iexact Hs
  isplitl [Hr] <;> iassumption

/-- The loads of a finished exchange: the device's own value, and the peer's. -/
theorem load_own_h (i : Fin 6) (c : Dev nD) {hl : hsM.view.LoadsAt (rH i).toLoadRect} {α : Type} {Q : α → sProp 𝕄} {k : Vec F S1x64x512 .bf16 → Prog (TpuEff nD τ sig (Elt F) Λ₀ .tc) α} :
    (done A (false, i) c : sProp 𝕄)
      ⊢ iprop((done A (false, i) c -∗ wp frame (wpE (defs₀ (F := F)) 𝒱₀ (c : Thread nD τ) none) Set.univ (k (hVal A i c)) Q)
          -∗ wp frame (wpE (defs₀ (F := F)) 𝒱₀ (c : Thread nD τ) none) Set.univ (.op (.load hsM (rH i).toLoadRect hl) k) Q) := by
  unfold done sVal
  iintro ⟨Hs, Hr⟩ Hk
  iapply (wp_load_slab hsM (rH i) (fun _ => rfl) c (hVal A i c)) $$ Hs
  iintro Hs
  iapply Hk
  isplitl [Hs] <;> iassumption
theorem load_own_o (i : Fin 6) (c : Dev nD) {hl : osM.view.LoadsAt (rO i).toLoadRect} {α : Type} {Q : α → sProp 𝕄} {k : Vec F S1x64x256 .bf16 → Prog (TpuEff nD τ sig (Elt F) Λ₀ .tc) α} :
    (done A (true, i) c : sProp 𝕄)
      ⊢ iprop((done A (true, i) c -∗ wp frame (wpE (defs₀ (F := F)) 𝒱₀ (c : Thread nD τ) none) Set.univ (k (oVal A i c)) Q)
          -∗ wp frame (wpE (defs₀ (F := F)) 𝒱₀ (c : Thread nD τ) none) Set.univ (.op (.load osM (rO i).toLoadRect hl) k) Q) := by
  unfold done sVal
  iintro ⟨Hs, Hr⟩ Hk
  iapply (wp_load_slab osM (rO i) (fun _ => rfl) c (oVal A i c)) $$ Hs
  iintro Hs
  iapply Hk
  isplitl [Hs] <;> iassumption
theorem load_peer_h (i : Fin 6) (c : Dev nD) {hl : hrM.view.LoadsAt (rH i).toLoadRect} {α : Type} {Q : α → sProp 𝕄} {k : Vec F S1x64x512 .bf16 → Prog (TpuEff nD τ sig (Elt F) Λ₀ .tc) α} :
    (done A (false, i) c : sProp 𝕄)
      ⊢ iprop((done A (false, i) c -∗ wp frame (wpE (defs₀ (F := F)) 𝒱₀ (c : Thread nD τ) none) Set.univ (k (hVal A i (yP c))) Q)
          -∗ wp frame (wpE (defs₀ (F := F)) 𝒱₀ (c : Thread nD τ) none) Set.univ (.op (.load hrM (rH i).toLoadRect hl) k) Q) := by
  unfold done rVal
  iintro ⟨Hs, Hr, Hz⟩ Hk
  iapply (wp_load_slab hrM (rH i) (fun _ => rfl) c (hVal A i (yP c))) $$ Hr
  iintro Hr
  iapply Hk
  isplitl [Hs]; · iexact Hs
  isplitl [Hr] <;> iassumption
theorem load_peer_o (i : Fin 6) (c : Dev nD) {hl : orM.view.LoadsAt (rO i).toLoadRect} {α : Type} {Q : α → sProp 𝕄} {k : Vec F S1x64x256 .bf16 → Prog (TpuEff nD τ sig (Elt F) Λ₀ .tc) α} :
    (done A (true, i) c : sProp 𝕄)
      ⊢ iprop((done A (true, i) c -∗ wp frame (wpE (defs₀ (F := F)) 𝒱₀ (c : Thread nD τ) none) Set.univ (k (oVal A i (xP c))) Q)
          -∗ wp frame (wpE (defs₀ (F := F)) 𝒱₀ (c : Thread nD τ) none) Set.univ (.op (.load orM (rO i).toLoadRect hl) k) Q) := by
  unfold done rVal
  iintro ⟨Hs, Hr, Hz⟩ Hk
  iapply (wp_load_slab orM (rO i) (fun _ => rfl) c (oVal A i (xP c))) $$ Hr
  iintro Hr
  iapply Hk
  isplitl [Hs]; · iexact Hs
  isplitl [Hr] <;> iassumption

end Ops

end Bundles

end Cert.MlpProof
-- ==== Proof.Stage.lean ====
/-
The staging buffers inside the body: the seven operand blocks, kept together in one bundle from which any rectangle can be
loaded.
-/
module

public import proofs.«01_k».proof.Proof.Rules

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The statement that a program, run by device `c` inside the kernel, ends with `Q`. -/
abbrev wpB {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A load from an owned memref reads the rectangle of its contents. -/
theorem load_owned (c : Dev nD) {sh : Shape} {e : EltTy} (M : Memref sig .tc .vmem sh e) (X : sh.Idx → Elt F e) (r : Rect sh)
    {hl : M.view.LoadsAt r.toLoadRect} {α : Type} {Q : α → sProp 𝕄}
    {k : (r.shape.Idx → Elt F e) → Prog (TpuEff nD τ sig (Elt F) Λ₀ .tc) α} :
    (owns (c : Thread nD τ) M fullShare X : sProp 𝕄)
      ⊢ iprop((owns (c : Thread nD τ) M fullShare X -∗ wpB c (k (View.ld X r)) Q) -∗ wpB c (.op (.load M r.toLoadRect hl) k) Q) := by
  unfold owns
  iintro ⟨%f, %hf, H⟩ Hk
  iapply (wp_load 𝒱₀ (c : Thread nD τ) none Set.univ (m := M) (S := M.view.set) (f := f) (View.setOn_subset_set _ _)) $$ H
  iintro H
  rw [show M.view.readAt (Elt F) r.toLoadRect f = View.ld X r from by rw [← hf]; rfl]
  iapply Hk
  iexists f
  isplitr
  · ipureintro; exact hf
  · iexact H

section Ins
variable (A : Args F)

/-- The staging buffers of the operands, holding device `c`'s blocks. -/
def ins (c : Dev nD) : sProp 𝕄 := iprop(
  owns (c : Thread nD τ) (Memref.whole cc0_stg0_0) fullShare (A.x c)
  ∗ owns (c : Thread nD τ) (Memref.whole cc0_stg1_0) fullShare (A.wi 0 c)
  ∗ owns (c : Thread nD τ) (Memref.whole cc0_stg2_0) fullShare (A.wo 0 c)
  ∗ owns (c : Thread nD τ) (Memref.whole cc0_stg3_0) fullShare (A.wi 1 c)
  ∗ owns (c : Thread nD τ) (Memref.whole cc0_stg4_0) fullShare (A.wo 1 c)
  ∗ owns (c : Thread nD τ) (Memref.whole cc0_stg5_0) fullShare (A.wi 2 c)
  ∗ owns (c : Thread nD τ) (Memref.whole cc0_stg6_0) fullShare (A.wo 2 c))

/-- A load from a memref that a bundle `P` lends. -/
theorem load_lent {P : sProp 𝕄} {c : Dev nD} {sh : Shape} {e : EltTy} {M : Memref sig .tc .vmem sh e} {X : sh.Idx → Elt F e} (r : Rect sh)
    (hP : P ⊢ iprop(owns (c : Thread nD τ) M fullShare X ∗ (owns (c : Thread nD τ) M fullShare X -∗ P)))
    {hl : M.view.LoadsAt r.toLoadRect} {α : Type} {Q : α → sProp 𝕄}
    {k : (r.shape.Idx → Elt F e) → Prog (TpuEff nD τ sig (Elt F) Λ₀ .tc) α} :
    P ⊢ iprop((P -∗ wpB c (k (View.ld X r)) Q) -∗ wpB c (.op (.load M r.toLoadRect hl) k) Q) := by
  iintro H Hk
  ihave H' := hP $$ H
  icases H' with ⟨HM, HP⟩
  iapply (load_owned c M X r) $$ HM
  iintro HM
  iapply Hk
  iapply HP
  iexact HM

variable (c : Dev nD)

theorem lend_x : ins A c ⊢ iprop(owns (c : Thread nD τ) (Memref.whole cc0_stg0_0) fullShare (A.x c)
    ∗ (owns (c : Thread nD τ) (Memref.whole cc0_stg0_0) fullShare (A.x c) -∗ ins A c)) := by
  unfold ins; iintro ⟨H, Hr⟩; isplitl [H]; · iexact H
  iintro H; isplitl [H] <;> iassumption
theorem lend_wi0 : ins A c ⊢ iprop(owns (c : Thread nD τ) (Memref.whole cc0_stg1_0) fullShare (A.wi 0 c)
    ∗ (owns (c : Thread nD τ) (Memref.whole cc0_stg1_0) fullShare (A.wi 0 c) -∗ ins A c)) := by
  unfold ins; iintro ⟨H0, H, Hr⟩; isplitl [H]; · iexact H
  iintro H; isplitl [H0]; · iexact H0
  isplitl [H] <;> iassumption
theorem lend_wo0 : ins A c ⊢ iprop(owns (c : Thread nD τ) (Memref.whole cc0_stg2_0) fullShare (A.wo 0 c)
    ∗ (owns (c : Thread nD τ) (Memref.whole cc0_stg2_0) fullShare (A.wo 0 c) -∗ ins A c)) := by
  unfold ins; iintro ⟨H0, H1, H, Hr⟩; isplitl [H]; · iexact H
  iintro H; isplitl [H0]; · iexact H0
  isplitl [H1]; · iexact H1
  isplitl [H] <;> iassumption
theorem lend_wi1 : ins A c ⊢ iprop(owns (c : Thread nD τ) (Memref.whole cc0_stg3_0) fullShare (A.wi 1 c)
    ∗ (owns (c : Thread nD τ) (Memref.whole cc0_stg3_0) fullShare (A.wi 1 c) -∗ ins A c)) := by
  unfold ins; iintro ⟨H0, H1, H2, H, Hr⟩; isplitl [H]; · iexact H
  iintro H; isplitl [H0]; · iexact H0
  isplitl [H1]; · iexact H1
  isplitl [H2]; · iexact H2
  isplitl [H] <;> iassumption
theorem lend_wo1 : ins A c ⊢ iprop(owns (c : Thread nD τ) (Memref.whole cc0_stg4_0) fullShare (A.wo 1 c)
    ∗ (owns (c : Thread nD τ) (Memref.whole cc0_stg4_0) fullShare (A.wo 1 c) -∗ ins A c)) := by
  unfold ins; iintro ⟨H0, H1, H2, H3, H, Hr⟩; isplitl [H]; · iexact H
  iintro H; isplitl [H0]; · iexact H0
  isplitl [H1]; · iexact H1
  isplitl [H2]; · iexact H2
  isplitl [H3]; · iexact H3
  isplitl [H] <;> iassumption
theorem lend_wi2 : ins A c ⊢ iprop(owns (c : Thread nD τ) (Memref.whole cc0_stg5_0) fullShare (A.wi 2 c)
    ∗ (owns (c : Thread nD τ) (Memref.whole cc0_stg5_0) fullShare (A.wi 2 c) -∗ ins A c)) := by
  unfold ins; iintro ⟨H0, H1, H2, H3, H4, H, Hr⟩; isplitl [H]; · iexact H
  iintro H; isplitl [H0]; · iexact H0
  isplitl [H1]; · iexact H1
  isplitl [H2]; · iexact H2
  isplitl [H3]; · iexact H3
  isplitl [H4]; · iexact H4
  isplitl [H] <;> iassumption
theorem lend_wo2 : ins A c ⊢ iprop(owns (c : Thread nD τ) (Memref.whole cc0_stg6_0) fullShare (A.wo 2 c)
    ∗ (owns (c : Thread nD τ) (Memref.whole cc0_stg6_0) fullShare (A.wo 2 c) -∗ ins A c)) := by
  unfold ins; iintro ⟨H0, H1, H2, H3, H4, H5, H⟩; isplitl [H]; · iexact H
  iintro H; isplitl [H0]; · iexact H0
  isplitl [H1]; · iexact H1
  isplitl [H2]; · iexact H2
  isplitl [H3]; · iexact H3
  isplitl [H4]; · iexact H4
  isplitl [H5] <;> iassumption

end Ins

end Cert.MlpProof
-- ==== Proof.Barrier.lean ====
/-
The barrier that opens the body: device `c` lends its landing slots to its two peers, waits for theirs, and has every
exchange pending afterwards.
-/
module

public import proofs.«01_k».proof.Proof.Stage

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Barrier
variable (A : Args F) (K : Dev nD × Kx → ℕ)

/-- What device `c` brings to the barrier. -/
def entry (c : Dev nD) : sProp 𝕄 := iprop(
  dutyTok ER (barCell (yP c)) 0 false ∗ dutyTok ER (barCell (xP c)) 0 true ∗ atPos ER (barCell c) 0 ∅ 0
    ∗ cred (tallyAt (barCell c) () 2) ∗ (bigSep Finset.univ fun e : Ex => rAny e c) ∗ (bigSep Finset.univ fun e : Ex => iprop(sAny e c ∗ keys e c))
    ∗ ∃ W, owes (c : Thread nD τ) (owed₀ c) W)

/-- What device `c` has after the barrier: its barrier cell at zero, and every exchange pending. -/
def opened (c : Dev nD) : sProp 𝕄 := iprop(
  semVal (barCell c) 0 ∗ (bigSep Finset.univ fun e : Ex => pend e c) ∗ owing 0 c)

omit [FloatOps F] in
/-- The landing slots of a device, by kind. -/
theorem slots_kinds (c : Dev nD) : (bigSep Finset.univ fun e : Ex => rAny e c : sProp 𝕄)
    = iprop((bigSep Finset.univ fun k : Fin 6 => rAny (false, k) c) ∗ bigSep Finset.univ fun k : Fin 6 => rAny (true, k) c) := by
  rw [bigSep_univ_prod, bigSep_univ_eq_bigSepL [false, true] (by decide) (by decide), bigSepL_cons_cons, bigSepL_singleton]; rfl

omit [FloatOps F] in
/-- The peers' landing slots, the device's send slots and the tokens make every exchange pending. -/
theorem pend_all (c : Dev nD) : iprop((barPay false c ∗ barPay true c) ∗ bigSep Finset.univ fun e : Ex => iprop(sAny e c ∗ keys e c))
    ⊢ (bigSep Finset.univ fun e : Ex => pend e c : sProp 𝕄) := by
  have h : (iprop(barPay false c ∗ barPay true c) : sProp 𝕄) = bigSep Finset.univ fun e : Ex => rAny e (peer e.1 c) := by
    rw [bigSep_univ_prod, bigSep_univ_eq_bigSepL [false, true] (by decide) (by decide), bigSepL_cons_cons, bigSepL_singleton]; rfl
  rw [h, ← bigSep_sep']
  refine bigSep_mono fun e _ => ?_
  unfold pend
  show iprop(rAny e (peer e.1 c) ∗ sAny e c ∗ keys e c) ⊢ iprop(sAny e c ∗ rAny e (peer e.1 c) ∗ keys e c)
  iintro ⟨Hr, Hs, Hk⟩
  isplitl [Hs]; · iexact Hs
  isplitl [Hr] <;> iassumption

/-- The two signals and the wait. -/
theorem barrier (c n₁ n₂ : Dev nD) (h₁ : n₁ = yP c) (h₂ : n₂ = xP c) {α : Type} {Q : α → sProp 𝕄} {k : PUnit → Prog (TpuEff nD τ sig (Elt F) Λ₀ .tc) α} :
    iprop(env A K ∗ entry c)
      ⊢ iprop((opened c -∗ wpB c (k ⟨⟩) Q)
        -∗ wpB c (.op (.semSignal (Dev.tc n₁ : Thread nD τ) barS (1#32).toInt) fun _ => .op (.semSignal (Dev.tc n₂ : Thread nD τ) barS (1#32).toInt) fun _ =>
            .op (.semWait barS (2#32).toInt) k) Q) := by
  subst h₁ h₂
  unfold entry
  rw [slots_kinds]
  iintro ⟨#HE, Hty, Htx, Hat, Hcr, ⟨Hry, Hrx⟩, Hsk, %W, HO⟩ Hk
  ihave #HY := (env_cell A K (yP c, none)) $$ HE
  ihave #HX := (env_cell A K (xP c, none)) $$ HE
  ihave #HB := (env_cell A K (c, none)) $$ HE
  ihave #Hlev := (env_lev A K) $$ HE
  icases HY with ⟨#HIy, #Hyr⟩
  icases HX with ⟨#HIx, #Hxr⟩
  icases HB with ⟨#HIb, -⟩
  unfold owed₀
  iapply (Rounds.wp_signal 𝒱₀ ER (exRd A) (c : Thread nD τ) none (dst := (yP c : Thread nD τ)) (κ := K (yP c, none))
      (d := false) (by rw [duties_bar]; exact Finset.mem_univ _) ((amount_bar A (yP c) false).trans (by decide)) () (owed₁ c) rfl) $$ [HO Hty Hry]
  · isplitr; · iexact HIy
    isplitl [HO]; · iexact HO
    isplitl [Hty]; · iexact Hty
    isplitl [Hry]
    · rw [payload_bar]; unfold barPay peer; rw [yP_yP]; iexact Hry
    · iexact Hyr
  iintro HO
  unfold owed₁
  iapply (Rounds.wp_signal 𝒱₀ ER (exRd A) (c : Thread nD τ) none (dst := (xP c : Thread nD τ)) (κ := K (xP c, none))
      (d := true) (by rw [duties_bar]; exact Finset.mem_univ _) ((amount_bar A (xP c) true).trans (by decide)) () (owed 0 c) rfl) $$ [HO Htx Hrx]
  · isplitr; · iexact HIx
    isplitl [HO]; · iexact HO
    isplitl [Htx]; · iexact Htx
    isplitl [Hrx]
    · rw [payload_bar]; unfold barPay peer; rw [xP_xP]; iexact Hrx
    · iexact Hxr
  iintro HO
  iapply (Rounds.wp_wait_rest_token 𝒱₀ ER (exRd A) (c : Thread nD τ) none (κ := K (c, none))
      (wpE_semWait_eq 𝒱₀ (c : Thread nD τ) none Set.univ) (Set.mem_univ _) () (O := owed 0 c) (W := W) (R := 0) (m := 0) (T := ∅)
      (by rw [expect_bar]; decide)) $$ [Hcr HO Hat]
  · isplitr; · iexact HIb
    isplitl [Hcr]; · iexact Hcr
    isplitl [HO]; · iexact HO
    isplitr; · iapply (mayWait_owed c (.reg barS) 1 0 (le_of_eq (lv_bar c ())) (by omega)); iexact Hlev
    iexact Hat
  iintro ⟨HO, Hat, -, Hpay⟩
  ihave Hp := (Entails.of_eq (rest_bar A c)) $$ Hpay
  imod (Rounds.cell_close ER (exRd A) (Set.mem_univ (K (c, none))) (fun h => h) (R := 0 + 1) (duties_later A (barCell c))) $$ [Hat] with Hz
  · isplitr; · iexact HIb
    iexact Hat
  iapply Hk
  unfold opened
  isplitl [Hz]; · iexact Hz
  isplitl [Hp Hsk]
  · iapply (pend_all c); isplitl [Hp] <;> iassumption
  unfold owing; iexists _; iexact HO

end Barrier

end Cert.MlpProof
-- ==== Proof.Parts.lean ====
/-
The nineteen windows of the body, one statement each: which bundles a window takes, which it leaves, and the values it hands
on. A window is followed by an arbitrary continuation `kk`.
-/
module

public import proofs.«01_k».proof.Proof.Barrier

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (A : Args F) (K : Dev nD × Kx → ℕ) (c : Dev nD)

omit [FloatOps F] in
/-- The exchanges in program order. -/
theorem ex_list (Φ : Ex → sProp 𝕄) : bigSep Finset.univ Φ
    = iprop(Φ (false, 0) ∗ Φ (false, 1) ∗ Φ (true, 0) ∗ Φ (true, 1) ∗ Φ (false, 2) ∗ Φ (false, 3) ∗ Φ (true, 2) ∗ Φ (true, 3)
        ∗ Φ (false, 4) ∗ Φ (false, 5) ∗ Φ (true, 4) ∗ Φ (true, 5)) := by
  rw [bigSep_univ_eq_bigSepL [(false, 0), (false, 1), (true, 0), (true, 1), (false, 2), (false, 3), (true, 2), (true, 3),
    (false, 4), (false, 5), (true, 4), (true, 5)] (by decide) (by decide)]
  rfl

/-- Window 1: the barrier, and the first hidden half stored. -/
theorem part1 {α : Type} {Q : α → sProp 𝕄} {kk : _ → Prog (TpuEff nD τ sig (Elt F) Λ₀ .tc) α} :
    iprop(env A K ∗ ins A c ∗ entry c)
      ⊢ iprop(((ins A c ∗ semVal (barCell c) 0 ∗ owing 0 c ∗ stored A (false, 0) c ∗ pend (false, 1) c ∗ pend (true, 0) c ∗ pend (true, 1) c
            ∗ pend (false, 2) c ∗ pend (false, 3) c ∗ pend (true, 2) c ∗ pend (true, 3) c
            ∗ pend (false, 4) c ∗ pend (false, 5) c ∗ pend (true, 4) c ∗ pend (true, 5) c)
          -∗ wpB c (kk ⟨c, Scalar.remsi (Scalar.divsi (Dev.word c) 2#32) 2#32, Scalar.remsi (Scalar.divsi (Dev.word c) 1#32) 2#32,
              Scalar.subi 1#32 (Scalar.remsi (Scalar.divsi (Dev.word c) 1#32) 2#32),
              Scalar.subi 1#32 (Scalar.remsi (Scalar.divsi (Dev.word c) 2#32) 2#32), k0_pay2 (ldx (A.x c)), 2#32⟩) Q)
        -∗ wpB c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 >>= kk) Q) := by
  simp only [k0_part1_eq_skeleton]; unfold k0_part1_skel
  simp only [semSignalWord, semWaitWord, Prog.lift, Prog.bind_op, Prog.bind_ret, Prog.pure_eq_ret, Prog.bind_assoc, wp_deviceId]
  iintro ⟨#HE, Hin, Hen⟩ Hk
  iapply (barrier A K c _ _ (dev1_eq c) (dev2_eq c)) $$ [Hen]
  · isplitr; · iexact HE
    iexact Hen
  iintro Hop
  unfold opened
  rw [ex_list]
  icases Hop with ⟨Hz, ⟨H0, Hrest⟩, HO⟩
  iapply (load_lent (P := ins A c) _ (lend_x A c)) $$ Hin
  iintro Hin
  iapply (load_lent (P := ins A c) _ (lend_wi0 A c)) $$ Hin
  iintro Hin
  iapply (load_pend_h 0 c) $$ H0
  iintro %v H0
  iapply (store_h A 0 c _ rfl) $$ H0
  iintro H0
  iapply Hk
  isplitl [Hin]; · iexact Hin
  isplitl [Hz]; · iexact Hz
  isplitl [HO]; · iexact HO
  isplitl [H0] <;> iassumption

/-- Window 2: both hidden halves of layer 0 are sent. -/
theorem part2 (v2 v6 w : BitVec 32) {α : Type} {Q : α → sProp 𝕄} {kk : _ → Prog (TpuEff nD τ sig (Elt F) Λ₀ .tc) α} :
    iprop(env A K ∗ ins A c ∗ stored A (false, 0) c ∗ pend (false, 1) c ∗ owing 0 c)
      ⊢ iprop(((ins A c ∗ fly (false, 0) c ∗ fly (false, 1) c ∗ owing 2 c)
          -∗ wpB c (kk ⟨⟩) Q)
        -∗ wpB c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v6 (k0_pay2 (ldx (A.x c))) w >>= kk) Q) := by
  simp only [k0_part2_eq_skeleton]; unfold k0_part2_skel
  simp only [Prog.lift, Prog.bind_op, Prog.bind_ret, Prog.pure_eq_ret, Prog.bind_assoc]
  iintro ⟨#HE, Hin, H0, H1, HO⟩ Hk
  iapply (send_h A K 0 c _ (dev3_eq c) _ _ rfl rfl _ _ rfl rfl) $$ [H0 HO]
  · isplitr; · iexact HE
    isplitl [H0]; · iexact H0
    iexact HO
  iintro ⟨H0, HO⟩
  iapply (load_lent (P := ins A c) _ (lend_wi0 A c)) $$ Hin
  iintro Hin
  iapply (load_pend_h 1 c) $$ H1
  iintro %v H1
  iapply (store_h A 1 c _ rfl) $$ H1
  iintro H1
  iapply (send_h A K 1 c _ (dev4_eq c) _ _ rfl rfl _ _ rfl rfl) $$ [H1 HO]
  · isplitr; · iexact HE
    isplitl [H1]; · iexact H1
    iexact HO
  iintro ⟨H1, HO⟩
  iapply Hk
  isplitl [Hin]; · iexact Hin
  isplitl [H0]; · iexact H0
  isplitl [H1]; · iexact H1
  iexact HO

/-- Window 3: the first hidden half of layer 0 arrives. -/
theorem part3 (v2 v6 : BitVec 32) {α : Type} {Q : α → sProp 𝕄} {kk : _ → Prog (TpuEff nD τ sig (Elt F) Λ₀ .tc) α} :
    iprop(env A K ∗ ins A c ∗ fly (false, 0) c ∗ owing 2 c)
      ⊢ iprop(((ins A c ∗ done A (false, 0) c ∗ owing 2 c)
          -∗ wpB c (kk ⟨k0_pay5 (hv0 A c) (hv0 A (yP c)), k0_pay6 (hv0 A c) (hv0 A (yP c)) (woUL (A.wo 0 c)), k0_pay7 (woUR (A.wo 0 c))⟩) Q)
        -∗ wpB c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v6 >>= kk) Q) := by
  simp only [k0_part3_eq_skeleton]; unfold k0_part3_skel
  simp only [Prog.lift, Prog.bind_op, Prog.bind_ret, Prog.pure_eq_ret, Prog.bind_assoc]
  iintro ⟨#HE, Hin, H0, HO⟩ Hk
  iapply (wait_send_h A K 0 2 c) $$ [H0 HO]
  · isplitr; · iexact HE
    isplitl [H0]; · iexact H0
    iexact HO
  iintro ⟨H0, HO⟩
  iapply (wait_recv_h A K 0 2 (by decide) c) $$ [H0 HO]
  · isplitr; · iexact HE
    isplitl [H0]; · iexact H0
    iexact HO
  iintro ⟨H0, HO⟩
  iapply (load_own_h A 0 c) $$ H0
  iintro H0
  iapply (load_peer_h A 0 c) $$ H0
  iintro H0
  iapply (load_lent (P := ins A c) _ (lend_wo0 A c)) $$ Hin
  iintro Hin
  iapply (load_lent (P := ins A c) _ (lend_wo0 A c)) $$ Hin
  iintro Hin
  iapply Hk
  isplitl [Hin]; · iexact Hin
  isplitl [H0]; · iexact H0
  iexact HO

/-- Window 4: the second hidden half of layer 0 arrives. -/
theorem part4 (v2 v6 : BitVec 32) (v80 : FVec F S64x512 .f32) (v85 : FVec F S512x256 .bf16) {α : Type} {Q : α → sProp 𝕄} {kk : _ → Prog (TpuEff nD τ sig (Elt F) Λ₀ .tc) α} :
    iprop(env A K ∗ ins A c ∗ fly (false, 1) c ∗ owing 2 c)
      ⊢ iprop(((ins A c ∗ done A (false, 1) c ∗ owing 2 c)
          -∗ wpB c (kk ⟨k0_pay8 v80 v85, k0_pay9 (hv1 A c) (hv1 A (yP c)), k0_pay10 (woDL (A.wo 0 c)), constant S64x256 .f32 0x00000000#32⟩) Q)
        -∗ wpB c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v6 v80 v85 >>= kk) Q) := by
  simp only [k0_part4_eq_skeleton]; unfold k0_part4_skel
  simp only [Prog.lift, Prog.bind_op, Prog.bind_ret, Prog.pure_eq_ret, Prog.bind_assoc]
  iintro ⟨#HE, Hin, H1, HO⟩ Hk
  iapply (wait_send_h A K 1 2 c) $$ [H1 HO]
  · isplitr; · iexact HE
    isplitl [H1]; · iexact H1
    iexact HO
  iintro ⟨H1, HO⟩
  iapply (wait_recv_h A K 1 2 (by decide) c) $$ [H1 HO]
  · isplitr; · iexact HE
    isplitl [H1]; · iexact H1
    iexact HO
  iintro ⟨H1, HO⟩
  iapply (load_own_h A 1 c) $$ H1
  iintro H1
  iapply (load_peer_h A 1 c) $$ H1
  iintro H1
  iapply (load_lent (P := ins A c) _ (lend_wo0 A c)) $$ Hin
  iintro Hin
  iapply Hk
  isplitl [Hin]; · iexact Hin
  isplitl [H1]; · iexact H1
  iexact HO

/-- Window 5: the result halves of layer 0 are stored, the first is sent. -/
theorem part5 (v5 v7 : BitVec 32) {α : Type} {Q : α → sProp 𝕄} {kk : _ → Prog (TpuEff nD τ sig (Elt F) Λ₀ .tc) α} :
    iprop(env A K ∗ ins A c ∗ pend (true, 0) c ∗ pend (true, 1) c ∗ owing 2 c)
      ⊢ iprop(((ins A c ∗ fly (true, 0) c ∗ stored A (true, 1) c ∗ owing 3 c)
          -∗ wpB c (kk ⟨⟩) Q)
        -∗ wpB c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v7 (k0_pay6 (hv0 A c) (hv0 A (yP c)) (woUL (A.wo 0 c))) (k0_pay8 (k0_pay5 (hv0 A c) (hv0 A (yP c))) (k0_pay7 (woUR (A.wo 0 c))))
            (k0_pay9 (hv1 A c) (hv1 A (yP c))) (k0_pay10 (woDL (A.wo 0 c))) (constant S64x256 .f32 0x00000000#32) >>= kk) Q) := by
  simp only [k0_part5_eq_skeleton]; unfold k0_part5_skel
  simp only [Prog.lift, Prog.bind_op, Prog.bind_ret, Prog.pure_eq_ret, Prog.bind_assoc]
  iintro ⟨#HE, Hin, O0, O1, HO⟩ Hk
  iapply (load_pend_o 0 c) $$ O0
  iintro %v O0
  iapply (store_o A 0 c _ rfl) $$ O0
  iintro O0
  iapply (send_o A K 0 c _ (dev5_eq c) _ _ rfl rfl _ _ rfl rfl) $$ [O0 HO]
  · isplitr; · iexact HE
    isplitl [O0]; · iexact O0
    iexact HO
  iintro ⟨O0, HO⟩
  iapply (load_lent (P := ins A c) _ (lend_wo0 A c)) $$ Hin
  iintro Hin
  iapply (load_pend_o 1 c) $$ O1
  iintro %v O1
  iapply (store_o A 1 c _ rfl) $$ O1
  iintro O1
  iapply Hk
  isplitl [Hin]; · iexact Hin
  isplitl [O0]; · iexact O0
  isplitl [O1]; · iexact O1
  iexact HO

/-- Window 6: the second result half of layer 0 is sent, the first arrives. -/
theorem part6 (v5 v7 : BitVec 32) {α : Type} {Q : α → sProp 𝕄} {kk : _ → Prog (TpuEff nD τ sig (Elt F) Λ₀ .tc) α} :
    iprop(env A K ∗ ins A c ∗ fly (true, 0) c ∗ stored A (true, 1) c ∗ owing 3 c)
      ⊢ iprop(((ins A c ∗ done A (true, 0) c ∗ fly (true, 1) c ∗ owing 4 c)
          -∗ wpB c (kk ⟨k0_pay13 (ov0 A c), ov0 A (xP c)⟩) Q)
        -∗ wpB c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v7 >>= kk) Q) := by
  simp only [k0_part6_eq_skeleton]; unfold k0_part6_skel
  simp only [Prog.lift, Prog.bind_op, Prog.bind_ret, Prog.pure_eq_ret, Prog.bind_assoc]
  iintro ⟨#HE, Hin, O0, O1, HO⟩ Hk
  iapply (send_o A K 1 c _ (dev6_eq c) _ _ rfl rfl _ _ rfl rfl) $$ [O1 HO]
  · isplitr; · iexact HE
    isplitl [O1]; · iexact O1
    iexact HO
  iintro ⟨O1, HO⟩
  iapply (wait_send_o A K 0 4 c) $$ [O0 HO]
  · isplitr; · iexact HE
    isplitl [O0]; · iexact O0
    iexact HO
  iintro ⟨O0, HO⟩
  iapply (wait_recv_o A K 0 4 (by decide) c) $$ [O0 HO]
  · isplitr; · iexact HE
    isplitl [O0]; · iexact O0
    iexact HO
  iintro ⟨O0, HO⟩
  iapply (load_own_o A 0 c) $$ O0
  iintro O0
  iapply (load_peer_o A 0 c) $$ O0
  iintro O0
  iapply Hk
  isplitl [Hin]; · iexact Hin
  isplitl [O0]; · iexact O0
  isplitl [O1]; · iexact O1
  iexact HO

/-- Window 7: the second result half of layer 0 arrives. -/
theorem part7 (v5 v7 : BitVec 32) (v168 : FVec F S64x256 .bf16) (v169 : Vec F S1x64x256 .bf16) {α : Type} {Q : α → sProp 𝕄} {kk : _ → Prog (TpuEff nD τ sig (Elt F) Λ₀ .tc) α} :
    iprop(env A K ∗ ins A c ∗ fly (true, 1) c ∗ owing 4 c)
      ⊢ iprop(((ins A c ∗ done A (true, 1) c ∗ owing 4 c)
          -∗ wpB c (kk ⟨k0_pay15 v168 v169 (wiUL (A.wi 1 c)), k0_pay16 v168 v169 (wiUR (A.wi 1 c)), k0_pay17 (ov1 A c)⟩) Q)
        -∗ wpB c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v5 v7 v168 v169 >>= kk) Q) := by
  simp only [k0_part7_eq_skeleton]; unfold k0_part7_skel
  simp only [Prog.lift, Prog.bind_op, Prog.bind_ret, Prog.pure_eq_ret, Prog.bind_assoc]
  iintro ⟨#HE, Hin, O1, HO⟩ Hk
  iapply (load_lent (P := ins A c) _ (lend_wi1 A c)) $$ Hin
  iintro Hin
  iapply (load_lent (P := ins A c) _ (lend_wi1 A c)) $$ Hin
  iintro Hin
  iapply (wait_send_o A K 1 4 c) $$ [O1 HO]
  · isplitr; · iexact HE
    isplitl [O1]; · iexact O1
    iexact HO
  iintro ⟨O1, HO⟩
  iapply (wait_recv_o A K 1 4 (by decide) c) $$ [O1 HO]
  · isplitr; · iexact HE
    isplitl [O1]; · iexact O1
    iexact HO
  iintro ⟨O1, HO⟩
  iapply (load_own_o A 1 c) $$ O1
  iintro O1
  iapply Hk
  isplitl [Hin]; · iexact Hin
  isplitl [O1]; · iexact O1
  iexact HO

/-- Window 8: the hidden halves of layer 1 are stored, the first is sent. -/
theorem part8 (v2 v6 : BitVec 32) {α : Type} {Q : α → sProp 𝕄} {kk : _ → Prog (TpuEff nD τ sig (Elt F) Λ₀ .tc) α} :
    iprop(env A K ∗ ins A c ∗ done A (true, 1) c ∗ pend (false, 2) c ∗ pend (false, 3) c ∗ owing 4 c)
      ⊢ iprop(((ins A c ∗ done A (true, 1) c ∗ fly (false, 2) c ∗ stored A (false, 3) c ∗ owing 5 c)
          -∗ wpB c (kk ⟨⟩) Q)
        -∗ wpB c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v6 (k0_pay15 (k0_pay13 (ov0 A c)) (ov0 A (xP c)) (wiUL (A.wi 1 c))) (k0_pay16 (k0_pay13 (ov0 A c)) (ov0 A (xP c)) (wiUR (A.wi 1 c)))
            (k0_pay17 (ov1 A c)) >>= kk) Q) := by
  simp only [k0_part8_eq_skeleton]; unfold k0_part8_skel
  simp only [Prog.lift, Prog.bind_op, Prog.bind_ret, Prog.pure_eq_ret, Prog.bind_assoc]
  iintro ⟨#HE, Hin, O1, H2, H3, HO⟩ Hk
  iapply (load_peer_o A 1 c) $$ O1
  iintro O1
  iapply (load_lent (P := ins A c) _ (lend_wi1 A c)) $$ Hin
  iintro Hin
  iapply (load_pend_h 2 c) $$ H2
  iintro %v H2
  iapply (store_h A 2 c _ rfl) $$ H2
  iintro H2
  iapply (send_h A K 2 c _ (dev7_eq c) _ _ rfl rfl _ _ rfl rfl) $$ [H2 HO]
  · isplitr; · iexact HE
    isplitl [H2]; · iexact H2
    iexact HO
  iintro ⟨H2, HO⟩
  iapply (load_lent (P := ins A c) _ (lend_wi1 A c)) $$ Hin
  iintro Hin
  iapply (load_pend_h 3 c) $$ H3
  iintro %v H3
  iapply (store_h A 3 c _ rfl) $$ H3
  iintro H3
  iapply Hk
  isplitl [Hin]; · iexact Hin
  isplitl [O1]; · iexact O1
  isplitl [H2]; · iexact H2
  isplitl [H3]; · iexact H3
  iexact HO

/-- Window 9: the second hidden half of layer 1 is sent. -/
theorem part9 (v2 v6 : BitVec 32) {α : Type} {Q : α → sProp 𝕄} {kk : _ → Prog (TpuEff nD τ sig (Elt F) Λ₀ .tc) α} :
    iprop(env A K ∗ ins A c ∗ fly (false, 2) c ∗ stored A (false, 3) c ∗ owing 5 c)
      ⊢ iprop(((ins A c ∗ half A (false, 2) c ∗ fly (false, 3) c ∗ owing 6 c)
          -∗ wpB c (kk ⟨⟩) Q)
        -∗ wpB c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v6 >>= kk) Q) := by
  simp only [k0_part9_eq_skeleton]; unfold k0_part9_skel
  simp only [Prog.lift, Prog.bind_op, Prog.bind_ret, Prog.pure_eq_ret, Prog.bind_assoc]
  iintro ⟨#HE, Hin, H2, H3, HO⟩ Hk
  iapply (send_h A K 3 c _ (dev8_eq c) _ _ rfl rfl _ _ rfl rfl) $$ [H3 HO]
  · isplitr; · iexact HE
    isplitl [H3]; · iexact H3
    iexact HO
  iintro ⟨H3, HO⟩
  iapply (wait_send_h A K 2 6 c) $$ [H2 HO]
  · isplitr; · iexact HE
    isplitl [H2]; · iexact H2
    iexact HO
  iintro ⟨H2, HO⟩
  iapply Hk
  isplitl [Hin]; · iexact Hin
  isplitl [H2]; · iexact H2
  isplitl [H3]; · iexact H3
  iexact HO

/-- Window 10: the first hidden half of layer 1 arrives. -/
theorem part10 (v2 v6 : BitVec 32) {α : Type} {Q : α → sProp 𝕄} {kk : _ → Prog (TpuEff nD τ sig (Elt F) Λ₀ .tc) α} :
    iprop(env A K ∗ ins A c ∗ half A (false, 2) c ∗ fly (false, 3) c ∗ owing 6 c)
      ⊢ iprop(((ins A c ∗ done A (false, 2) c ∗ half A (false, 3) c ∗ owing 6 c)
          -∗ wpB c (kk ⟨k0_pay22 (hv2 A c) (hv2 A (yP c)) (woUL (A.wo 1 c)), k0_pay23 (hv2 A c) (hv2 A (yP c)) (woUR (A.wo 1 c))⟩) Q)
        -∗ wpB c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v6 >>= kk) Q) := by
  simp only [k0_part10_eq_skeleton]; unfold k0_part10_skel
  simp only [Prog.lift, Prog.bind_op, Prog.bind_ret, Prog.pure_eq_ret, Prog.bind_assoc]
  iintro ⟨#HE, Hin, H2, H3, HO⟩ Hk
  iapply (wait_recv_h A K 2 6 (by decide) c) $$ [H2 HO]
  · isplitr; · iexact HE
    isplitl [H2]; · iexact H2
    iexact HO
  iintro ⟨H2, HO⟩
  iapply (load_own_h A 2 c) $$ H2
  iintro H2
  iapply (load_peer_h A 2 c) $$ H2
  iintro H2
  iapply (load_lent (P := ins A c) _ (lend_wo1 A c)) $$ Hin
  iintro Hin
  iapply (load_lent (P := ins A c) _ (lend_wo1 A c)) $$ Hin
  iintro Hin
  iapply (wait_send_h A K 3 6 c) $$ [H3 HO]
  · isplitr; · iexact HE
    isplitl [H3]; · iexact H3
    iexact HO
  iintro ⟨H3, HO⟩
  iapply Hk
  isplitl [Hin]; · iexact Hin
  isplitl [H2]; · iexact H2
  isplitl [H3]; · iexact H3
  iexact HO

/-- Window 11: the second hidden half of layer 1 arrives, the first result half of layer 1 is sent. -/
theorem part11 (v5 v7 : BitVec 32) {α : Type} {Q : α → sProp 𝕄} {kk : _ → Prog (TpuEff nD τ sig (Elt F) Λ₀ .tc) α} :
    iprop(env A K ∗ ins A c ∗ half A (false, 3) c ∗ pend (true, 2) c ∗ owing 6 c)
      ⊢ iprop(((ins A c ∗ done A (false, 3) c ∗ fly (true, 2) c ∗ owing 7 c)
          -∗ wpB c (kk (k0_pay24 (hv3 A c) (hv3 A (yP c)))) Q)
        -∗ wpB c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v7 (k0_pay22 (hv2 A c) (hv2 A (yP c)) (woUL (A.wo 1 c))) >>= kk) Q) := by
  simp only [k0_part11_eq_skeleton]; unfold k0_part11_skel
  simp only [Prog.lift, Prog.bind_op, Prog.bind_ret, Prog.pure_eq_ret, Prog.bind_assoc]
  iintro ⟨#HE, Hin, H3, O2, HO⟩ Hk
  iapply (wait_recv_h A K 3 6 (by decide) c) $$ [H3 HO]
  · isplitr; · iexact HE
    isplitl [H3]; · iexact H3
    iexact HO
  iintro ⟨H3, HO⟩
  iapply (load_own_h A 3 c) $$ H3
  iintro H3
  iapply (load_peer_h A 3 c) $$ H3
  iintro H3
  iapply (load_lent (P := ins A c) _ (lend_wo1 A c)) $$ Hin
  iintro Hin
  iapply (load_pend_o 2 c) $$ O2
  iintro %v O2
  iapply (store_o A 2 c _ rfl) $$ O2
  iintro O2
  iapply (send_o A K 2 c _ (dev9_eq c) _ _ rfl rfl _ _ rfl rfl) $$ [O2 HO]
  · isplitr; · iexact HE
    isplitl [O2]; · iexact O2
    iexact HO
  iintro ⟨O2, HO⟩
  iapply Hk
  isplitl [Hin]; · iexact Hin
  isplitl [H3]; · iexact H3
  isplitl [O2]; · iexact O2
  iexact HO

/-- Window 12: the second result half of layer 1 is sent. -/
theorem part12 (v5 v7 : BitVec 32) {α : Type} {Q : α → sProp 𝕄} {kk : _ → Prog (TpuEff nD τ sig (Elt F) Λ₀ .tc) α} :
    iprop(env A K ∗ ins A c ∗ fly (true, 2) c ∗ pend (true, 3) c ∗ owing 7 c)
      ⊢ iprop(((ins A c ∗ half A (true, 2) c ∗ fly (true, 3) c ∗ owing 8 c)
          -∗ wpB c (kk 2#32) Q)
        -∗ wpB c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v7 (k0_pay23 (hv2 A c) (hv2 A (yP c)) (woUR (A.wo 1 c))) (k0_pay24 (hv3 A c) (hv3 A (yP c))) >>= kk) Q) := by
  simp only [k0_part12_eq_skeleton]; unfold k0_part12_skel
  simp only [Prog.lift, Prog.bind_op, Prog.bind_ret, Prog.pure_eq_ret, Prog.bind_assoc]
  iintro ⟨#HE, Hin, O2, O3, HO⟩ Hk
  iapply (load_lent (P := ins A c) _ (lend_wo1 A c)) $$ Hin
  iintro Hin
  iapply (load_pend_o 3 c) $$ O3
  iintro %v O3
  iapply (store_o A 3 c _ rfl) $$ O3
  iintro O3
  iapply (send_o A K 3 c _ (dev10_eq c) _ _ rfl rfl _ _ rfl rfl) $$ [O3 HO]
  · isplitr; · iexact HE
    isplitl [O3]; · iexact O3
    iexact HO
  iintro ⟨O3, HO⟩
  iapply (wait_send_o A K 2 8 c) $$ [O2 HO]
  · isplitr; · iexact HE
    isplitl [O2]; · iexact O2
    iexact HO
  iintro ⟨O2, HO⟩
  iapply Hk
  isplitl [Hin]; · iexact Hin
  isplitl [O2]; · iexact O2
  isplitl [O3]; · iexact O3
  iexact HO

/-- Window 13: the first result half of layer 1 arrives. -/
theorem part13 (v5 v7 w : BitVec 32) {α : Type} {Q : α → sProp 𝕄} {kk : _ → Prog (TpuEff nD τ sig (Elt F) Λ₀ .tc) α} :
    iprop(env A K ∗ ins A c ∗ half A (true, 2) c ∗ fly (true, 3) c ∗ owing 8 c)
      ⊢ iprop(((ins A c ∗ done A (true, 2) c ∗ half A (true, 3) c ∗ owing 8 c)
          -∗ wpB c (kk ⟨k0_pay28 (ov2 A c) (ov2 A (xP c)) (wiUL (A.wi 2 c)), k0_pay29 (ov2 A c) (ov2 A (xP c)) (wiUR (A.wi 2 c))⟩) Q)
        -∗ wpB c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v5 v7 w >>= kk) Q) := by
  simp only [k0_part13_eq_skeleton]; unfold k0_part13_skel
  simp only [Prog.lift, Prog.bind_op, Prog.bind_ret, Prog.pure_eq_ret, Prog.bind_assoc]
  iintro ⟨#HE, Hin, O2, O3, HO⟩ Hk
  iapply (wait_recv_o A K 2 8 (by decide) c) $$ [O2 HO]
  · isplitr; · iexact HE
    isplitl [O2]; · iexact O2
    iexact HO
  iintro ⟨O2, HO⟩
  iapply (load_own_o A 2 c) $$ O2
  iintro O2
  iapply (load_peer_o A 2 c) $$ O2
  iintro O2
  iapply (load_lent (P := ins A c) _ (lend_wi2 A c)) $$ Hin
  iintro Hin
  iapply (load_lent (P := ins A c) _ (lend_wi2 A c)) $$ Hin
  iintro Hin
  iapply (wait_send_o A K 3 8 c) $$ [O3 HO]
  · isplitr; · iexact HE
    isplitl [O3]; · iexact O3
    iexact HO
  iintro ⟨O3, HO⟩
  iapply Hk
  isplitl [Hin]; · iexact Hin
  isplitl [O2]; · iexact O2
  isplitl [O3]; · iexact O3
  iexact HO

/-- Window 14: the second result half of layer 1 arrives, the first hidden half of layer 2 is stored. -/
theorem part14 (v2 v5 v6 v7 : BitVec 32) {α : Type} {Q : α → sProp 𝕄} {kk : _ → Prog (TpuEff nD τ sig (Elt F) Λ₀ .tc) α} :
    iprop(env A K ∗ ins A c ∗ half A (true, 3) c ∗ pend (false, 4) c ∗ owing 8 c)
      ⊢ iprop(((ins A c ∗ done A (true, 3) c ∗ stored A (false, 4) c ∗ owing 8 c)
          -∗ wpB c (kk (k0_pay30 (ov3 A c) (ov3 A (xP c)))) Q)
        -∗ wpB c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v5 v6 v7 (k0_pay28 (ov2 A c) (ov2 A (xP c)) (wiUL (A.wi 2 c))) >>= kk) Q) := by
  simp only [k0_part14_eq_skeleton]; unfold k0_part14_skel
  simp only [Prog.lift, Prog.bind_op, Prog.bind_ret, Prog.pure_eq_ret, Prog.bind_assoc]
  iintro ⟨#HE, Hin, O3, H4, HO⟩ Hk
  iapply (wait_recv_o A K 3 8 (by decide) c) $$ [O3 HO]
  · isplitr; · iexact HE
    isplitl [O3]; · iexact O3
    iexact HO
  iintro ⟨O3, HO⟩
  iapply (load_own_o A 3 c) $$ O3
  iintro O3
  iapply (load_peer_o A 3 c) $$ O3
  iintro O3
  iapply (load_lent (P := ins A c) _ (lend_wi2 A c)) $$ Hin
  iintro Hin
  iapply (load_pend_h 4 c) $$ H4
  iintro %v H4
  iapply (store_h A 4 c _ rfl) $$ H4
  iintro H4
  iapply Hk
  isplitl [Hin]; · iexact Hin
  isplitl [O3]; · iexact O3
  isplitl [H4]; · iexact H4
  iexact HO

/-- Window 15: the hidden halves of layer 2 are sent. -/
theorem part15 (v2 v6 : BitVec 32) {α : Type} {Q : α → sProp 𝕄} {kk : _ → Prog (TpuEff nD τ sig (Elt F) Λ₀ .tc) α} :
    iprop(env A K ∗ ins A c ∗ stored A (false, 4) c ∗ pend (false, 5) c ∗ owing 8 c)
      ⊢ iprop(((ins A c ∗ fly (false, 4) c ∗ fly (false, 5) c ∗ owing 10 c)
          -∗ wpB c (kk ⟨⟩) Q)
        -∗ wpB c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v6 (k0_pay29 (ov2 A c) (ov2 A (xP c)) (wiUR (A.wi 2 c))) (k0_pay30 (ov3 A c) (ov3 A (xP c))) >>= kk) Q) := by
  simp only [k0_part15_eq_skeleton]; unfold k0_part15_skel
  simp only [Prog.lift, Prog.bind_op, Prog.bind_ret, Prog.pure_eq_ret, Prog.bind_assoc]
  iintro ⟨#HE, Hin, H4, H5, HO⟩ Hk
  iapply (send_h A K 4 c _ (dev11_eq c) _ _ rfl rfl _ _ rfl rfl) $$ [H4 HO]
  · isplitr; · iexact HE
    isplitl [H4]; · iexact H4
    iexact HO
  iintro ⟨H4, HO⟩
  iapply (load_lent (P := ins A c) _ (lend_wi2 A c)) $$ Hin
  iintro Hin
  iapply (load_pend_h 5 c) $$ H5
  iintro %v H5
  iapply (store_h A 5 c _ rfl) $$ H5
  iintro H5
  iapply (send_h A K 5 c _ (dev12_eq c) _ _ rfl rfl _ _ rfl rfl) $$ [H5 HO]
  · isplitr; · iexact HE
    isplitl [H5]; · iexact H5
    iexact HO
  iintro ⟨H5, HO⟩
  iapply Hk
  isplitl [Hin]; · iexact Hin
  isplitl [H4]; · iexact H4
  isplitl [H5]; · iexact H5
  iexact HO

/-- Window 16: the first hidden half of layer 2 arrives. -/
theorem part16 (v2 v6 : BitVec 32) {α : Type} {Q : α → sProp 𝕄} {kk : _ → Prog (TpuEff nD τ sig (Elt F) Λ₀ .tc) α} :
    iprop(env A K ∗ ins A c ∗ fly (false, 4) c ∗ owing 10 c)
      ⊢ iprop(((ins A c ∗ done A (false, 4) c ∗ owing 10 c)
          -∗ wpB c (kk ⟨k0_pay34 (hv4 A c) (hv4 A (yP c)) (woUL (A.wo 2 c)), k0_pay35 (hv4 A c) (hv4 A (yP c)) (woUR (A.wo 2 c))⟩) Q)
        -∗ wpB c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v6 >>= kk) Q) := by
  simp only [k0_part16_eq_skeleton]; unfold k0_part16_skel
  simp only [Prog.lift, Prog.bind_op, Prog.bind_ret, Prog.pure_eq_ret, Prog.bind_assoc]
  iintro ⟨#HE, Hin, H4, HO⟩ Hk
  iapply (wait_send_h A K 4 10 c) $$ [H4 HO]
  · isplitr; · iexact HE
    isplitl [H4]; · iexact H4
    iexact HO
  iintro ⟨H4, HO⟩
  iapply (wait_recv_h A K 4 10 (by decide) c) $$ [H4 HO]
  · isplitr; · iexact HE
    isplitl [H4]; · iexact H4
    iexact HO
  iintro ⟨H4, HO⟩
  iapply (load_own_h A 4 c) $$ H4
  iintro H4
  iapply (load_peer_h A 4 c) $$ H4
  iintro H4
  iapply (load_lent (P := ins A c) _ (lend_wo2 A c)) $$ Hin
  iintro Hin
  iapply (load_lent (P := ins A c) _ (lend_wo2 A c)) $$ Hin
  iintro Hin
  iapply Hk
  isplitl [Hin]; · iexact Hin
  isplitl [H4]; · iexact H4
  iexact HO

/-- Window 17: the second hidden half of layer 2 arrives. -/
theorem part17 (v2 v6 : BitVec 32) (v451 : FVec F S64x256 .f32) {α : Type} {Q : α → sProp 𝕄} {kk : _ → Prog (TpuEff nD τ sig (Elt F) Λ₀ .tc) α} :
    iprop(env A K ∗ ins A c ∗ fly (false, 5) c ∗ pend (true, 4) c ∗ owing 10 c)
      ⊢ iprop(((ins A c ∗ done A (false, 5) c ∗ pend (true, 4) c ∗ owing 10 c)
          -∗ wpB c (kk ⟨k0_pay36 (hv5 A c) (hv5 A (yP c)), k0_pay37 v451 (hv5 A c) (hv5 A (yP c)) (woDL (A.wo 2 c))⟩) Q)
        -∗ wpB c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v6 v451 >>= kk) Q) := by
  simp only [k0_part17_eq_skeleton]; unfold k0_part17_skel
  simp only [Prog.lift, Prog.bind_op, Prog.bind_ret, Prog.pure_eq_ret, Prog.bind_assoc]
  iintro ⟨#HE, Hin, H5, O4, HO⟩ Hk
  iapply (wait_send_h A K 5 10 c) $$ [H5 HO]
  · isplitr; · iexact HE
    isplitl [H5]; · iexact H5
    iexact HO
  iintro ⟨H5, HO⟩
  iapply (wait_recv_h A K 5 10 (by decide) c) $$ [H5 HO]
  · isplitr; · iexact HE
    isplitl [H5]; · iexact H5
    iexact HO
  iintro ⟨H5, HO⟩
  iapply (load_own_h A 5 c) $$ H5
  iintro H5
  iapply (load_peer_h A 5 c) $$ H5
  iintro H5
  iapply (load_lent (P := ins A c) _ (lend_wo2 A c)) $$ Hin
  iintro Hin
  iapply (load_pend_o 4 c) $$ O4
  iintro %v O4
  iapply Hk
  isplitl [Hin]; · iexact Hin
  isplitl [H5]; · iexact H5
  isplitl [O4]; · iexact O4
  iexact HO

/-- Window 18: the result halves of layer 2 are stored, the first is sent. -/
theorem part18 (v5 v7 : BitVec 32) {α : Type} {Q : α → sProp 𝕄} {kk : _ → Prog (TpuEff nD τ sig (Elt F) Λ₀ .tc) α} :
    iprop(env A K ∗ ins A c ∗ pend (true, 4) c ∗ pend (true, 5) c ∗ owing 10 c)
      ⊢ iprop(((ins A c ∗ fly (true, 4) c ∗ stored A (true, 5) c ∗ owing 11 c)
          -∗ wpB c (kk ⟨⟩) Q)
        -∗ wpB c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v7 (k0_pay35 (hv4 A c) (hv4 A (yP c)) (woUR (A.wo 2 c))) (k0_pay36 (hv5 A c) (hv5 A (yP c)))
            (k0_pay37 (k0_pay34 (hv4 A c) (hv4 A (yP c)) (woUL (A.wo 2 c))) (hv5 A c) (hv5 A (yP c)) (woDL (A.wo 2 c))) >>= kk) Q) := by
  simp only [k0_part18_eq_skeleton]; unfold k0_part18_skel
  simp only [Prog.lift, Prog.bind_op, Prog.bind_ret, Prog.pure_eq_ret, Prog.bind_assoc]
  iintro ⟨#HE, Hin, O4, O5, HO⟩ Hk
  iapply (store_o A 4 c _ rfl) $$ O4
  iintro O4
  iapply (send_o A K 4 c _ (dev13_eq c) _ _ rfl rfl _ _ rfl rfl) $$ [O4 HO]
  · isplitr; · iexact HE
    isplitl [O4]; · iexact O4
    iexact HO
  iintro ⟨O4, HO⟩
  iapply (load_lent (P := ins A c) _ (lend_wo2 A c)) $$ Hin
  iintro Hin
  iapply (load_pend_o 5 c) $$ O5
  iintro %v O5
  iapply (store_o A 5 c _ rfl) $$ O5
  iintro O5
  iapply Hk
  isplitl [Hin]; · iexact Hin
  isplitl [O4]; · iexact O4
  isplitl [O5]; · iexact O5
  iexact HO

/-- Window 19: the second result half of layer 2 is sent, the first arrives. -/
theorem part19 (v5 v7 : BitVec 32) {α : Type} {Q : α → sProp 𝕄} {kk : _ → Prog (TpuEff nD τ sig (Elt F) Λ₀ .tc) α} :
    iprop(env A K ∗ ins A c ∗ fly (true, 4) c ∗ stored A (true, 5) c ∗ owing 11 c)
      ⊢ iprop(((ins A c ∗ done A (true, 4) c ∗ half A (true, 5) c ∗ owing 12 c)
          -∗ wpB c (kk ⟨⟩) Q)
        -∗ wpB c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v7 >>= kk) Q) := by
  simp only [k0_part19_eq_skeleton]; unfold k0_part19_skel
  simp only [Prog.lift, Prog.bind_op, Prog.bind_ret, Prog.pure_eq_ret, Prog.bind_assoc]
  iintro ⟨#HE, Hin, O4, O5, HO⟩ Hk
  iapply (send_o A K 5 c _ (dev14_eq c) _ _ rfl rfl _ _ rfl rfl) $$ [O5 HO]
  · isplitr; · iexact HE
    isplitl [O5]; · iexact O5
    iexact HO
  iintro ⟨O5, HO⟩
  iapply (wait_send_o A K 4 12 c) $$ [O4 HO]
  · isplitr; · iexact HE
    isplitl [O4]; · iexact O4
    iexact HO
  iintro ⟨O4, HO⟩
  iapply (wait_recv_o A K 4 12 (by decide) c) $$ [O4 HO]
  · isplitr; · iexact HE
    isplitl [O4]; · iexact O4
    iexact HO
  iintro ⟨O4, HO⟩
  iapply (wait_send_o A K 5 12 c) $$ [O5 HO]
  · isplitr; · iexact HE
    isplitl [O5]; · iexact O5
    iexact HO
  iintro ⟨O5, HO⟩
  iapply Hk
  isplitl [Hin]; · iexact Hin
  isplitl [O4]; · iexact O4
  isplitl [O5]; · iexact O5
  iexact HO

end Parts

end Cert.MlpProof
-- ==== Proof.Body.lean ====
/-
The whole body: its windows put together, and the two stores of the result block.
-/
module

public import proofs.«01_k».proof.Proof.Parts

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body
variable (A : Args F) (K : Dev nD × Kx → ℕ) (c : Dev nD)

/-- A store of one column half of the result block. -/
theorem store_out (f : Vec F S64x512 .f32) (w : Vec F S64x256 .f32) (off : Fin 2 → ℕ) (inb : ∀ a, off a + S64x256.size a ≤ S64x512.size a)
    {hx : ((Memref.whole cc0_stg7_0).access (Rect.unit (s := S64x512) off S64x256.size inb)).Stores Finset.univ}
    {hm : (Finset.univ : Finset (Rect.unit (s := S64x512) off S64x256.size inb).shape.Idx) = Finset.univ
      ∨ ∀ a, (Rect.unit (s := S64x512) off S64x256.size inb).stride a = 1}
    {α : Type} {Q : α → sProp 𝕄} {k : PUnit → Prog (TpuEff nD τ sig (Elt F) Λ₀ .tc) α} :
    ((c : Thread nD τ).loc cc0_stg7_0 ↦{fullShare} f : sProp 𝕄)
      ⊢ iprop((((c : Thread nD τ).loc cc0_stg7_0 ↦{fullShare} (updateSlice f w off ⟨rfl, inb⟩ : Vec F S64x512 .f32)) -∗ wpB c (k ⟨⟩) Q)
        -∗ wpB c (.op (.store (Memref.whole cc0_stg7_0) (Rect.unit (s := S64x512) off S64x256.size inb) w Finset.univ hx hm) k) Q) := by
  iintro H Hk
  iapply (wp_store 𝒱₀ (c : Thread nD τ) none Set.univ (m := Memref.whole cc0_stg7_0) (r := Rect.unit (s := S64x512) off S64x256.size inb)
    (Mk := Finset.univ) (Finset.subset_univ _)) $$ H
  iintro H
  iapply Hk
  rw [← View.write_whole_slice_unit (Val := Elt F) cc0_stg7_0 off S64x256.size inb f w]
  iexact H

/-- The load of a column half of the result block, whose contents the body does not use. -/
theorem load_out (f : Vec F S64x512 .f32) (r : Rect S64x512) {hl : (Memref.whole cc0_stg7_0).view.LoadsAt r.toLoadRect}
    {α : Type} {Q : α → sProp 𝕄} {k : (r.shape.Idx → Elt F .f32) → Prog (TpuEff nD τ sig (Elt F) Λ₀ .tc) α} :
    ((c : Thread nD τ).loc cc0_stg7_0 ↦{fullShare} f : sProp 𝕄)
      ⊢ iprop((∀ v, ((c : Thread nD τ).loc cc0_stg7_0 ↦{fullShare} f) -∗ wpB c (k v) Q)
        -∗ wpB c (.op (.load (Memref.whole cc0_stg7_0) r.toLoadRect hl) k) Q) := by
  iintro H Hk
  iapply (wp_load 𝒱₀ (c : Thread nD τ) none Set.univ (m := Memref.whole cc0_stg7_0) (Finset.subset_univ _)) $$ H
  iintro H
  iapply Hk
  iexact H

/-- What the body leaves. -/
def closed : sProp 𝕄 := iprop(
  ins A c ∗ ((c : Thread nD τ).loc cc0_stg7_0 ↦{fullShare} outVal A c) ∗ semVal (barCell c) 0
    ∗ (bigSep Finset.univ fun e : Ex => done A e c) ∗ ∃ W, owes (c : Thread nD τ) (0 : CellTallies nD τ sig Unit) W)

/-- The body, from the barrier to the last store. -/
theorem body (f : Vec F S64x512 .f32) {Q : PUnit → sProp 𝕄} :
    iprop(env A K ∗ ins A c ∗ entry c ∗ ((c : Thread nD τ).loc cc0_stg7_0 ↦{fullShare} f))
      ⊢ iprop((closed A c -∗ Q ⟨⟩) -∗ wpB c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q) := by
  simp only [cc0_body_eq_skeleton]; unfold cc0_body_skel
  simp only [k0_part20_eq_skeleton]; unfold k0_part20_skel
  simp only [Prog.lift, Prog.bind_op, Prog.bind_ret, Prog.pure_eq_ret, Prog.bind_assoc]
  iintro ⟨#HE, Hin, Hen, Hout⟩ Hk
  iapply (part1 A K c) $$ [Hin Hen]
  · isplitr; · iexact HE
    isplitl [Hin] <;> iassumption
  iintro ⟨Hin, Hz, HO, H0, H1, O0, O1, H2, H3, O2, O3, H4, H5, O4, O5⟩
  try dsimp only
  iapply (part2 A K c _ _ _) $$ [Hin H0 H1 HO]
  · isplitr; · iexact HE
    isplitl [Hin]; · iexact Hin
    isplitl [H0]; · iexact H0
    isplitl [H1]; · iexact H1
    iexact HO
  iintro ⟨Hin, H0, H1, HO⟩
  try dsimp only
  iapply (part3 A K c _ _) $$ [Hin H0 HO]
  · isplitr; · iexact HE
    isplitl [Hin]; · iexact Hin
    isplitl [H0]; · iexact H0
    iexact HO
  iintro ⟨Hin, H0, HO⟩
  try dsimp only
  iapply (part4 A K c _ _ _ _) $$ [Hin H1 HO]
  · isplitr; · iexact HE
    isplitl [Hin]; · iexact Hin
    isplitl [H1]; · iexact H1
    iexact HO
  iintro ⟨Hin, H1, HO⟩
  try dsimp only
  iapply (part5 A K c _ _) $$ [Hin O0 O1 HO]
  · isplitr; · iexact HE
    isplitl [Hin]; · iexact Hin
    isplitl [O0]; · iexact O0
    isplitl [O1]; · iexact O1
    iexact HO
  iintro ⟨Hin, O0, O1, HO⟩
  try dsimp only
  iapply (part6 A K c _ _) $$ [Hin O0 O1 HO]
  · isplitr; · iexact HE
    isplitl [Hin]; · iexact Hin
    isplitl [O0]; · iexact O0
    isplitl [O1]; · iexact O1
    iexact HO
  iintro ⟨Hin, O0, O1, HO⟩
  try dsimp only
  iapply (part7 A K c _ _ _ _) $$ [Hin O1 HO]
  · isplitr; · iexact HE
    isplitl [Hin]; · iexact Hin
    isplitl [O1]; · iexact O1
    iexact HO
  iintro ⟨Hin, O1, HO⟩
  try dsimp only
  iapply (part8 A K c _ _) $$ [Hin O1 H2 H3 HO]
  · isplitr; · iexact HE
    isplitl [Hin]; · iexact Hin
    isplitl [O1]; · iexact O1
    isplitl [H2]; · iexact H2
    isplitl [H3]; · iexact H3
    iexact HO
  iintro ⟨Hin, O1, H2, H3, HO⟩
  try dsimp only
  iapply (part9 A K c _ _) $$ [Hin H2 H3 HO]
  · isplitr; · iexact HE
    isplitl [Hin]; · iexact Hin
    isplitl [H2]; · iexact H2
    isplitl [H3]; · iexact H3
    iexact HO
  iintro ⟨Hin, H2, H3, HO⟩
  try dsimp only
  iapply (part10 A K c _ _) $$ [Hin H2 H3 HO]
  · isplitr; · iexact HE
    isplitl [Hin]; · iexact Hin
    isplitl [H2]; · iexact H2
    isplitl [H3]; · iexact H3
    iexact HO
  iintro ⟨Hin, H2, H3, HO⟩
  try dsimp only
  iapply (part11 A K c _ _) $$ [Hin H3 O2 HO]
  · isplitr; · iexact HE
    isplitl [Hin]; · iexact Hin
    isplitl [H3]; · iexact H3
    isplitl [O2]; · iexact O2
    iexact HO
  iintro ⟨Hin, H3, O2, HO⟩
  try dsimp only
  iapply (part12 A K c _ _) $$ [Hin O2 O3 HO]
  · isplitr; · iexact HE
    isplitl [Hin]; · iexact Hin
    isplitl [O2]; · iexact O2
    isplitl [O3]; · iexact O3
    iexact HO
  iintro ⟨Hin, O2, O3, HO⟩
  try dsimp only
  iapply (part13 A K c _ _ _) $$ [Hin O2 O3 HO]
  · isplitr; · iexact HE
    isplitl [Hin]; · iexact Hin
    isplitl [O2]; · iexact O2
    isplitl [O3]; · iexact O3
    iexact HO
  iintro ⟨Hin, O2, O3, HO⟩
  try dsimp only
  iapply (part14 A K c _ _ _ _) $$ [Hin O3 H4 HO]
  · isplitr; · iexact HE
    isplitl [Hin]; · iexact Hin
    isplitl [O3]; · iexact O3
    isplitl [H4]; · iexact H4
    iexact HO
  iintro ⟨Hin, O3, H4, HO⟩
  try dsimp only
  iapply (part15 A K c _ _) $$ [Hin H4 H5 HO]
  · isplitr; · iexact HE
    isplitl [Hin]; · iexact Hin
    isplitl [H4]; · iexact H4
    isplitl [H5]; · iexact H5
    iexact HO
  iintro ⟨Hin, H4, H5, HO⟩
  try dsimp only
  iapply (part16 A K c _ _) $$ [Hin H4 HO]
  · isplitr; · iexact HE
    isplitl [Hin]; · iexact Hin
    isplitl [H4]; · iexact H4
    iexact HO
  iintro ⟨Hin, H4, HO⟩
  try dsimp only
  iapply (part17 A K c _ _ _) $$ [Hin H5 O4 HO]
  · isplitr; · iexact HE
    isplitl [Hin]; · iexact Hin
    isplitl [H5]; · iexact H5
    isplitl [O4]; · iexact O4
    iexact HO
  iintro ⟨Hin, H5, O4, HO⟩
  try dsimp only
  iapply (part18 A K c _ _) $$ [Hin O4 O5 HO]
  · isplitr; · iexact HE
    isplitl [Hin]; · iexact Hin
    isplitl [O4]; · iexact O4
    isplitl [O5]; · iexact O5
    iexact HO
  iintro ⟨Hin, O4, O5, HO⟩
  try dsimp only
  iapply (part19 A K c _ _) $$ [Hin O4 O5 HO]
  · isplitr; · iexact HE
    isplitl [Hin]; · iexact Hin
    isplitl [O4]; · iexact O4
    isplitl [O5]; · iexact O5
    iexact HO
  iintro ⟨Hin, O4, O5, HO⟩
  try dsimp only
  iapply (wait_recv_o A K 5 12 (by decide) c) $$ [O5 HO]
  · isplitr; · iexact HE
    isplitl [O5] <;> iassumption
  iintro ⟨O5, HO⟩
  iapply (load_own_o A 4 c) $$ O4
  iintro O4
  iapply (load_peer_o A 4 c) $$ O4
  iintro O4
  iapply (load_out c f) $$ Hout
  iintro %v Hout
  iapply (store_out c f) $$ Hout
  iintro Hout
  iapply (load_own_o A 5 c) $$ O5
  iintro O5
  iapply (load_peer_o A 5 c) $$ O5
  iintro O5
  iapply (load_out c) $$ Hout
  iintro %v' Hout
  iapply (store_out c) $$ Hout
  iintro Hout
  unfold wpB; rw [wp_ret]
  imodintro
  iapply Hk
  unfold closed
  rw [ex_list]
  isplitl [Hin]; · iexact Hin
  isplitl [Hout]
  · unfold outVal; rw [outOver_eq A (fun _ => FloatOps.ofBits .f32 0) f c]; iexact Hout
  isplitl [Hz]; · iexact Hz
  isplitr [HO]
  · isplitl [H0]; · iexact H0
    isplitl [H1]; · iexact H1
    isplitl [O0]; · iexact O0
    isplitl [O1]; · iexact O1
    isplitl [H2]; · iexact H2
    isplitl [H3]; · iexact H3
    isplitl [O2]; · iexact O2
    isplitl [O3]; · iexact O3
    isplitl [H4]; · iexact H4
    isplitl [H5]; · iexact H5
    isplitl [O4]; · iexact O4
    iexact O5
  · unfold owing; rw [owed_last]; iexact HO

end Body

end Cert.MlpProof
-- ==== Proof.Launch.lean ====
/-
The launch of the kernel's protocol: the rounds of all cells are funded, their invariants allocated, the duty tokens dealt to
the devices that pay them, the launch credit read, and the scratch buffers cut into slots and joined again.
-/
module

public import proofs.«01_k».proof.Proof.Body
public import Idealize.ShloMosaic.Lib.Ring

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sums over the cells of a device -/

section Sums
variable {M : Type} [URA M]

theorem bigSep_opt {I : Type} [Fintype I] [DecidableEq I] (Φ : Option I → sProp M) :
    bigSep Finset.univ Φ = iprop(Φ none ∗ bigSep Finset.univ fun i => Φ (some i)) := by
  rw [bigSep_univ_at Φ none, show (Finset.univ : Finset (Option I)).erase none = Finset.univ.map Function.Embedding.some from by
    ext x; cases x <;> simp, BI.bigSep_map]
  rfl

theorem bigSep_kinds (Φ : Bool × Ex → sProp M) :
    bigSep Finset.univ Φ = iprop((bigSep Finset.univ fun e => Φ (false, e)) ∗ bigSep Finset.univ fun e => Φ (true, e)) := by
  rw [BI.bigSep_univ_prod, bigSep_univ_eq_bigSepL [false, true] (by decide) (by decide), bigSepL_cons_cons, bigSepL_singleton]
  rfl

theorem bigSep_cells (Φ : Kx → sProp M) :
    bigSep Finset.univ Φ = iprop(Φ none ∗ (bigSep Finset.univ fun e => Φ (some (false, e))) ∗ bigSep Finset.univ fun e => Φ (some (true, e))) := by
  rw [bigSep_opt, bigSep_kinds]

end Sums

/-! ## The slots of a buffer -/

section Slots
variable {sh : Shape} {el : EltTy} (c : Dev nD) (M : Memref sig .tc .vmem sh el) (r : Fin 6 → Rect sh) (hr : ∀ t a, (r t).stride a = 1)
  (hd : ∀ t t', t ≠ t' → Disjoint (r t).set (r t').set)
  (hcov : (Finset.univ : Finset (Fin 6)).biUnion (fun t => (r t).set) = Finset.univ)

omit [FloatOps F] in
include hd hcov in
/-- A buffer holding anything is its slots holding anything, -/
theorem slots_split : iprop(∃ v, owns (c : Thread nD τ) M fullShare v)
    ⊢ (bigSep Finset.univ fun k => iprop(∃ v, owns (c : Thread nD τ) (M.slice (r k) (hr k)) fullShare v) : sProp 𝕄) := by
  iintro ⟨%v, H⟩
  iapply (show _ ⊢ _ from (owns_rects (c : Thread nD τ) M fullShare r hr hd hcov v).trans
    (bigSep_mono fun k _ => by
      show _ ⊢ iprop(∃ v, owns (c : Thread nD τ) (M.slice (r k) (hr k)) fullShare v)
      iintro H; iexists _; iexact H))
  iexact H

include hd hcov in
/-- and back. -/
theorem slots_join : (bigSep Finset.univ fun k => iprop(∃ v, owns (c : Thread nD τ) (M.slice (r k) (hr k)) fullShare v) : sProp 𝕄)
    ⊢ iprop(∃ v, owns (c : Thread nD τ) M fullShare v) := by
  iintro H
  ihave H := (BI.bigSep_exists_pi Finset.univ (fun k v => (owns (c : Thread nD τ) (M.slice (r k) (hr k)) fullShare v : sProp 𝕄))) $$ H
  icases H with ⟨%y, H⟩
  have hinj : Function.Injective (fun p : (Σ k : Fin 6, (r k).shape.Idx) => (r p.1).emb p.2) := by
    rintro ⟨k, j⟩ ⟨k', j'⟩ h
    have hk : k = k' := by
      by_contra hne
      have h1 : (r k).emb j ∈ (r k).set := by rw [← Rect.map_emb_univ]; exact Finset.mem_map_of_mem _ (Finset.mem_univ j)
      have h2 : (r k').emb j' ∈ (r k').set := by rw [← Rect.map_emb_univ]; exact Finset.mem_map_of_mem _ (Finset.mem_univ j')
      rw [← show (r k).emb j = (r k').emb j' from h] at h2
      exact Finset.disjoint_left.mp (hd k k' hne) h1 h2
    subst hk
    rw [(r k).emb.injective (show (r k).emb j = (r k).emb j' from h)]
  iexists (Function.extend (fun p : (Σ k : Fin 6, (r k).shape.Idx) => (r p.1).emb p.2) (fun p => y p.1 p.2) (fun _ => Classical.arbitrary _))
  iapply (show _ ⊢ _ from (bigSep_mono fun k _ => Entails.of_eq (congrArg (owns (c : Thread nD τ) (M.slice (r k) (hr k)) fullShare) (funext fun j => (hinj.extend_apply (fun p => y p.1 p.2) _ ⟨k, j⟩).symm))).trans
    (owns_of_rects (c : Thread nD τ) M fullShare r hr hd hcov _))
  iexact H

end Slots

theorem rH_disj (t t' : Fin 6) (h : t ≠ t') : Disjoint (rH t).set (rH t').set :=
  Ring.lead_disjoint (s := S6x64x512) (0 : Fin 3) 1 (fun k : Fin 6 => ![k.val, 0, 0]) S1x64x512.size inbH (fun b => (Nat.one_mul _).symm) rfl t t' h
theorem rO_disj (t t' : Fin 6) (h : t ≠ t') : Disjoint (rO t).set (rO t').set :=
  Ring.lead_disjoint (s := S6x64x256) (0 : Fin 3) 1 (fun k : Fin 6 => ![k.val, 0, 0]) S1x64x256.size inbO (fun b => (Nat.one_mul _).symm) rfl t t' h
theorem rH_cover : (Finset.univ : Finset (Fin 6)).biUnion (fun t => (rH t).set) = Finset.univ :=
  Ring.lead_cover (s := S6x64x512) (0 : Fin 3) 1 (fun k : Fin 6 => ![k.val, 0, 0]) S1x64x512.size inbH (fun b => (Nat.one_mul _).symm)
    (by decide) rfl (by decide) rfl
theorem rO_cover : (Finset.univ : Finset (Fin 6)).biUnion (fun t => (rO t).set) = Finset.univ :=
  Ring.lead_cover (s := S6x64x256) (0 : Fin 3) 1 (fun k : Fin 6 => ![k.val, 0, 0]) S1x64x256.size inbO (fun b => (Nat.one_mul _).symm)
    (by decide) rfl (by decide) rfl

omit [FloatOps F] in
theorem owns_buf (c : Dev nD) (b : Ref sig .tc) (X : b.ty.Contents (Elt F)) :
    (owns (c : Thread nD τ) (Memref.whole b) fullShare X : sProp 𝕄) = ((c : Thread nD τ).loc b) ↦{fullShare} X := by
  rw [owns_whole]

/-- The four scratch buffers of a device, holding anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ ∃ f : Buf (Elt F) ((c : Thread nD τ).loc cc0_scratch3), ((c : Thread nD τ).loc cc0_scratch3) ↦{fullShare} f)

omit [FloatOps F] in
theorem all_slots (Φ : Ex → sProp 𝕄) :
    bigSep Finset.univ Φ = iprop((bigSep Finset.univ fun k : Fin 6 => Φ (false, k)) ∗ bigSep Finset.univ fun k : Fin 6 => Φ (true, k)) := by
  rw [BI.bigSep_univ_prod, bigSep_univ_eq_bigSepL [false, true] (by decide) (by decide), bigSepL_cons_cons, bigSepL_singleton]
  rfl

omit [FloatOps F] in
/-- The scratch buffers cut into the slots of all exchanges, -/
theorem scratch_split (c : Dev nD) : (scratch (F := F) c : sProp 𝕄)
    ⊢ iprop((bigSep Finset.univ fun e : Ex => sAny e c) ∗ bigSep Finset.univ fun e : Ex => rAny e c) := by
  rw [all_slots, all_slots]
  unfold scratch
  iintro ⟨⟨%f0, H0⟩, ⟨%f1, H1⟩, ⟨%f2, H2⟩, ⟨%f3, H3⟩⟩
  isplitl [H0 H2]
  · isplitl [H0]
    · iapply (slots_split c hsM rH (fun _ _ => rfl) rH_disj rH_cover)
      iexists f0; rw [owns_buf]; iexact H0
    · iapply (slots_split c osM rO (fun _ _ => rfl) rO_disj rO_cover)
      iexists f2; rw [owns_buf]; iexact H2
  · isplitl [H1]
    · iapply (slots_split c hrM rH (fun _ _ => rfl) rH_disj rH_cover)
      iexists f1; rw [owns_buf]; iexact H1
    · iapply (slots_split c orM rO (fun _ _ => rfl) rO_disj rO_cover)
      iexists f3; rw [owns_buf]; iexact H3

/-- and joined again. -/
theorem scratch_join (c : Dev nD) : iprop((bigSep Finset.univ fun e : Ex => sAny e c) ∗ bigSep Finset.univ fun e : Ex => rAny e c)
    ⊢ (scratch (F := F) c : sProp 𝕄) := by
  rw [all_slots, all_slots]
  unfold scratch
  iintro ⟨⟨H0, H2⟩, H1, H3⟩
  ihave H0 := (show (bigSep Finset.univ fun k : Fin 6 => sAny (F := F) (false, k) c) ⊢ _ from slots_join c hsM rH (fun _ _ => rfl) rH_disj rH_cover) $$ H0
  ihave H1 := (show (bigSep Finset.univ fun k : Fin 6 => rAny (F := F) (false, k) c) ⊢ _ from slots_join c hrM rH (fun _ _ => rfl) rH_disj rH_cover) $$ H1
  ihave H2 := (show (bigSep Finset.univ fun k : Fin 6 => sAny (F := F) (true, k) c) ⊢ _ from slots_join c osM rO (fun _ _ => rfl) rO_disj rO_cover) $$ H2
  ihave H3 := (show (bigSep Finset.univ fun k : Fin 6 => rAny (F := F) (true, k) c) ⊢ _ from slots_join c orM rO (fun _ _ => rfl) rO_disj rO_cover) $$ H3
  icases H0 with ⟨%f0, H0⟩
  icases H1 with ⟨%f1, H1⟩
  icases H2 with ⟨%f2, H2⟩
  icases H3 with ⟨%f3, H3⟩
  isplitl [H0]; · (iexists f0; rw [← owns_buf]; iexact H0)
  isplitl [H1]; · (iexists f1; rw [← owns_buf]; iexact H1)
  isplitl [H2]; · (iexists f2; rw [← owns_buf]; iexact H2)
  iexists f3; rw [← owns_buf]; iexact H3

/-! ## Funding the rounds -/

theorem kcell_inj : Function.Injective (kcell : Dev nD × Kx → GSem nD τ sig) := by
  rintro ⟨c, k⟩ ⟨c', k'⟩ h
  have h1 : c = c' := congrArg (fun g : GSem nD τ sig => g.1.1) h
  have h2 : k = k' := osem_inj (congrArg Prod.snd h)
  rw [h1, h2]

def exCells : Finset (GSem nD τ sig) := Finset.univ.map ⟨kcell, kcell_inj⟩

/-- The duties of a device's cells: `none` the barrier's second, `some k` the first of cell `k`. -/
def tokOf (x : Dev nD × Option Kx) : GSem nD τ sig × ℕ × Bool := match x.2 with
  | none => (barCell x.1, 0, true)
  | some k => (kcell (x.1, k), 0, false)

theorem tokOf_inj : Function.Injective tokOf := by
  rintro ⟨c, j⟩ ⟨c', j'⟩ h
  have h1 : c = c' := by
    have := congrArg (fun x : GSem nD τ sig × ℕ × Bool => x.1.1.1) h
    cases j <;> cases j' <;> exact this
  subst h1
  have h2 := congrArg (fun x : GSem nD τ sig × ℕ × Bool => x.2.2) h
  have h3 := congrArg (fun x : GSem nD τ sig × ℕ × Bool => x.1) h
  cases j with
  | none => cases j' with
    | none => rfl
    | some k' => exact absurd h2 (by simp [tokOf])
  | some k => cases j' with
    | none => exact absurd h2 (by simp [tokOf])
    | some k' => rw [show k = k' from congrArg Prod.snd (kcell_inj (show kcell (c, k) = kcell (c, k') from h3))]

def exToks : Finset (GSem nD τ sig × ℕ × Bool) := Finset.univ.map ⟨tokOf, tokOf_inj⟩

def u₀ : UU :=
  (initOf (Pipeline.cells cfgs cellOf_inj) (Pipeline.launchToks cfgs cellOf_inj), initOf exCells exToks)

/-- The duty tokens of device `c`'s own cells, and of the duties device `c` pays. -/
def toks (c : Dev nD) : sProp 𝕄 :=
  iprop(dutyTok ER (barCell c) 0 true ∗ dutyTok ER (barCell c) 0 false
    ∗ (bigSep Finset.univ fun e : Ex => dutyTok ER (sendCell c e) 0 false) ∗ bigSep Finset.univ fun e : Ex => dutyTok ER (recvCell c e) 0 false)
def payToks (c : Dev nD) : sProp 𝕄 :=
  iprop(dutyTok ER (barCell (xP c)) 0 true ∗ dutyTok ER (barCell (yP c)) 0 false
    ∗ (bigSep Finset.univ fun e : Ex => dutyTok ER (sendCell c e) 0 false)
    ∗ bigSep Finset.univ fun e : Ex => dutyTok ER (recvCell (peer e.1 c) e) 0 false)

def xSwap : Dev nD ≃ Dev nD := ⟨xP, xP, xP_xP, xP_xP⟩
def ySwap : Dev nD ≃ Dev nD := ⟨yP, yP, yP_yP, yP_yP⟩
def peerSwap (b : Bool) : Dev nD ≃ Dev nD := ⟨peer b, peer b, peer_peer b, peer_peer b⟩

omit [FloatOps F] in
/-- Every token goes to the device that pays it. -/
theorem toks_deal : (bigSep Finset.univ fun c : Dev nD => (toks (F := F) c : sProp 𝕄)) ⊢ bigSep Finset.univ fun c : Dev nD => payToks c := by
  unfold toks payToks
  rw [bigSep_sep', bigSep_sep', bigSep_sep', bigSep_sep', bigSep_sep', bigSep_sep',
    BI.bigSep_univ_equiv xSwap (fun c : Dev nD => (dutyTok ER (barCell c) 0 true : sProp 𝕄)),
    BI.bigSep_univ_equiv ySwap (fun c : Dev nD => (dutyTok ER (barCell c) 0 false : sProp 𝕄)),
    BI.bigSep_univ_comm (fun (c : Dev nD) (e : Ex) => (dutyTok ER (recvCell c e) 0 false : sProp 𝕄)),
    BI.bigSep_univ_comm (fun (c : Dev nD) (e : Ex) => (dutyTok ER (recvCell (peer e.1 c) e) 0 false : sProp 𝕄))]
  refine sep_mono_right (sep_mono_right (sep_mono_right (bigSep_mono fun e _ => ?_)))
  rw [BI.bigSep_univ_equiv (peerSwap e.1) (fun c : Dev nD => (dutyTok ER (recvCell c e) 0 false : sProp 𝕄))]
  show (bigSep Finset.univ fun c : Dev nD => (dutyTok ER (recvCell (peer e.1 c) e) 0 false : sProp 𝕄)) ⊢ _
  iintro H; iexact H

section Fund
variable (A : Args F)

/-- What the launch element deals device `c`. -/
def G (c : Dev nD) : sProp 𝕄 :=
  iprop((bigSep Finset.univ fun k : Kx => roundState ER (exRd A) (kcell (c, k)) 0)
    ∗ (bigSep Finset.univ fun k : Kx => atPos ER (kcell (c, k)) 0 ∅ 0) ∗ (bigSep Finset.univ fun k : Kx => reached ER (kcell (c, k)) 0) ∗ toks c)

theorem fund_all : BI.own (ER (initOf exCells exToks)) ⊢ (|==> bigSep Finset.univ (G A) : sProp 𝕄) := by
  have hX (Φ : GSem nD τ sig → sProp 𝕄) : bigSep exCells Φ = bigSep Finset.univ fun c : Dev nD => bigSep Finset.univ fun k : Kx => Φ (kcell (c, k)) := by
    unfold exCells; rw [BI.bigSep_map, BI.bigSep_univ_prod]; rfl
  have hT : bigSep exToks (fun x => (dutyTok ER x.1 x.2.1 x.2.2 : sProp 𝕄)) = bigSep Finset.univ fun c : Dev nD => toks c := by
    unfold exToks; rw [BI.bigSep_map, BI.bigSep_univ_prod]
    exact bigSep_congr fun c _ => by unfold toks; rw [bigSep_opt, bigSep_cells]; rfl
  iintro HX
  imod (Rounds.fund ER (exRd A) exCells exToks) $$ HX with ⟨Hst, Hr, Hat, Htok⟩
  imodintro
  ihave Hst' := (Entails.of_eq (hX fun g => roundState ER (exRd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The barrier semaphore and the kernel's own semaphores are the device's cells. -/
theorem sems0_eq (c : Dev nD) :
    iprop(unscopedSems0 c ∗ Pipeline.ownSems0 (Ix := Unit) (Name := ℕ) (U := UU) (Lvl := ℕ) (Val := Elt F) (τ := τ) dsem c)
      = (bigSep Finset.univ fun k : Kx => semVal (kcell (c, k)) 0 : sProp 𝕄) := by
  rw [unscopedSems0_eq, bigSep_opt]; rfl

theorem core_alloc (c : Dev nD) :
    iprop(Pipeline.ownSems0 (Ix := Unit) (Name := ℕ) (U := UU) (Lvl := ℕ) (Val := Elt F) (τ := τ) dsem c ∗ unscopedSems0 c ∗ G A c)
      ⊢ |={Set.univ}=> iprop((bigSep Finset.univ fun k => iprop(∃ κ : ℕ, cellInv ER (exRd A) κ (kcell (c, k))))
          ∗ (bigSep Finset.univ fun k => reached ER (kcell (c, k)) 0) ∗ (bigSep Finset.univ fun k => atPos ER (kcell (c, k)) 0 ∅ 0) ∗ toks c) := by
  unfold G
  iintro ⟨Hos, Hus, Hst, Hat, Hr, Htok⟩
  ihave Hv := (Entails.of_eq (sems0_eq (F := F) c)) $$ [Hos Hus]
  · isplitl [Hus] <;> iassumption
  imod (show iprop((bigSep Finset.univ fun k : Kx => semVal (kcell (c, k)) 0) ∗ bigSep Finset.univ fun k : Kx => roundState ER (exRd A) (kcell (c, k)) 0)
      ⊢ (|={Set.univ}=> bigSep Finset.univ fun k => iprop(∃ κ : ℕ, cellInv ER (exRd A) κ (kcell (c, k))) : sProp 𝕄) from by
        rw [← bigSep_sep']
        exact (bigSep_mono fun k _ => (Rounds.body_intro ER (exRd A) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- What every device may use of all cells. -/
def records (K : Dev nD × Kx → ℕ) : sProp 𝕄 :=
  bigSep Finset.univ fun ck : Dev nD × Kx => iprop(cellInv ER (exRd A) (K ck) (kcell ck) ∗ reached ER (kcell ck) 0)

instance records_persistent (K : Dev nD × Kx → ℕ) : BI.Persistent (records A K) := by unfold records; infer_instance

/-- What stays with device `c`: its positions and the tokens of the duties it pays. -/
def linear (c : Dev nD) : sProp 𝕄 := iprop((bigSep Finset.univ fun k : Kx => atPos ER (kcell (c, k)) 0 ∅ 0) ∗ payToks c)

/-- What the global step makes of a device's share. -/
def G' (c : Dev nD) : sProp 𝕄 := iprop(∃ K, records A K ∗ linear c)

theorem regroup :
    (bigSep Finset.univ fun c : Dev nD => iprop((bigSep Finset.univ fun k => iprop(∃ κ : ℕ, cellInv ER (exRd A) κ (kcell (c, k))))
          ∗ (bigSep Finset.univ fun k => reached ER (kcell (c, k)) 0) ∗ (bigSep Finset.univ fun k => atPos ER (kcell (c, k)) 0 ∅ 0) ∗ toks c) : sProp 𝕄)
      ⊢ bigSep Finset.univ (G' A) := by
  rw [bigSep_sep', bigSep_sep', bigSep_sep', ← BI.bigSep_univ_prod (fun ck : Dev nD × Kx => iprop(∃ κ : ℕ, cellInv ER (exRd A) κ (kcell ck))),
    ← BI.bigSep_univ_prod (fun ck : Dev nD × Kx => (reached ER (kcell ck) 0 : sProp 𝕄))]
  iintro ⟨HI, #HR, Hat, Htok⟩
  ihave HK := (BI.bigSep_exists_pi Finset.univ (fun (ck : Dev nD × Kx) (κ : ℕ) => (cellInv ER (exRd A) κ (kcell ck) : sProp 𝕄))) $$ HI
  icases HK with ⟨%K, #HI⟩
  ihave Htk := (toks_deal (F := F)) $$ Htok
  iapply (show iprop(records A K ∗ bigSep Finset.univ fun c : Dev nD => linear c) ⊢ bigSep Finset.univ (G' A) from
    (sep_mono_left (BI.bigSep_of_persistent Finset.univ (records A K))).trans (by
      rw [← bigSep_sep']
      exact bigSep_mono fun c _ => by
        show iprop(records A K ∗ linear c) ⊢ G' A c
        unfold G'; iintro H; iexists K; iexact H))
  isplitr
  · unfold records; rw [bigSep_sep']
    isplitl; · iexact HI
    iexact HR
  · unfold linear; rw [bigSep_sep']
    isplitl [Hat]; · iexact Hat
    iexact Htk

/-- The global step: the semaphores of every device at once. -/
theorem glob : (bigSep Finset.univ fun c => iprop(Pipeline.ownSems0 (Ix := Unit) (Name := ℕ) (U := UU) (Lvl := ℕ) (Val := Elt F) (τ := τ) dsem c
      ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

end Fund

/-! ## The launch credit -/

theorem cell_ne {c d : Dev nD} {k k' : Kx} (h : k ≠ k') : kcell (c, k) ≠ kcell (d, k') :=
  fun e => h (congrArg Prod.snd (kcell_inj e))

theorem owed_at_bar (n : ℕ) (d c : Dev nD) : owed n d (barCell c) () = 0 := by
  by_contra h
  obtain ⟨e, _, he⟩ := owed_pos (Nat.pos_of_ne_zero h)
  exact cell_ne (c := c) (d := peer e.1 d) (k := none) (k' := some (true, e)) (fun h => nomatch h) he

theorem owed_at_recv (d c : Dev nD) (e : Ex) : owed 0 d (recvCell c e) () = if d = peer e.1 c then amt e.1 else 0 := by
  unfold owed
  rw [Finset.sum_apply, Finsupp.finset_sum_apply, Finset.sum_eq_single e]
  · rw [tallyAt_apply]
    by_cases h : d = peer e.1 c
    · subst h; rw [peer_peer, if_pos ⟨rfl, rfl⟩, if_pos rfl]
    · rw [if_neg h, if_neg]
      rintro ⟨h', -⟩
      have h'' : c = peer e.1 d := congrArg Prod.fst (kcell_inj (a₁ := (c, some (true, e))) (a₂ := (peer e.1 d, some (true, e))) h')
      exact h (by rw [h'', peer_peer])
  · intro e' _ hne
    rw [tallyAt_apply, if_neg]
    rintro ⟨h', -⟩
    exact cell_ne (c := c) (d := peer e'.1 d) (k := some (true, e)) (k' := some (true, e')) (fun h => hne (by cases h; rfl)) h'
  · intro h; exact absurd (Finset.mem_filter.mpr ⟨Finset.mem_univ e, Nat.zero_le (ix e)⟩) h

theorem bar_at (d c : Dev nD) (b : Bool) : (tallyAt (barCell (peer b d)) () 1 : CellTallies nD τ sig Unit) (barCell c) () = if d = peer b c then 1 else 0 := by
  rw [tallyAt_apply]
  by_cases h : d = peer b c
  · subst h; rw [peer_peer, if_pos ⟨rfl, rfl⟩, if_pos rfl]
  · rw [if_neg h, if_neg]
    rintro ⟨h', -⟩
    have h'' : c = peer b d := congrArg Prod.fst (kcell_inj (a₁ := (c, none)) (a₂ := (peer b d, none)) h')
    exact h (by rw [h'', peer_peer])

theorem owed₀_bar (d c : Dev nD) : owed₀ d (barCell c) () = (if d = xP c then 1 else 0) + (if d = yP c then 1 else 0) := by
  unfold owed₀ owed₁
  rw [Pi.add_apply, Finsupp.add_apply, Pi.add_apply, Finsupp.add_apply, owed_at_bar, Nat.zero_add]
  exact congrArg₂ (· + ·) (bar_at d c true) (bar_at d c false)

theorem owed₀_recv (d c : Dev nD) (e : Ex) : owed₀ d (recvCell c e) () = if d = peer e.1 c then amt e.1 else 0 := by
  have hne (c' : Dev nD) : (tallyAt (barCell c') () 1 : CellTallies nD τ sig Unit) (recvCell c e) () = 0 := by
    rw [tallyAt_apply, if_neg]
    rintro ⟨h', -⟩
    exact cell_ne (c := c) (d := c') (k := some (true, e)) (k' := none) (fun h => nomatch h) h'
  unfold owed₀ owed₁
  rw [Pi.add_apply, Finsupp.add_apply, Pi.add_apply, Finsupp.add_apply, owed_at_recv, hne, hne]; rfl

theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed₀_bar d c, Finset.sum_add_distrib,
    Finset.sum_ite_eq' Finset.univ (xP c) fun _ => 1, Finset.sum_ite_eq' Finset.univ (yP c) fun _ => 1, if_pos (Finset.mem_univ _), if_pos (Finset.mem_univ _)]

theorem launch_recv (c : Dev nD) (e : Ex) :
    tallyOn (recvCell c e) (launchCredit (Pipeline.owing owed₀) 0 (recvCell c e)) = (tallyAt (recvCell c e) () (amt e.1) : CellTallies nD τ sig Unit) := by
  unfold tallyAt; refine congrArg _ (Finsupp.ext fun u => ?_); cases u
  rw [Pipeline.launchCredit_owing, Finsupp.single_eq_same, Finset.sum_congr rfl fun d _ => owed₀_recv d c e,
    Finset.sum_ite_eq' Finset.univ (peer e.1 c) fun _ => amt e.1, if_pos (Finset.mem_univ _)]

omit [FloatOps F] in
/-- The launch credit of a device's cells. -/
theorem creds (c : Dev nD) : (Pipeline.launchCred owed₀ c : sProp 𝕄)
    ⊢ iprop(cred (tallyAt (barCell c) () 2) ∗ bigSep Finset.univ fun e : Ex => cred (tallyAt (recvCell c e) () (amt e.1))) := by
  unfold Pipeline.launchCred
  rw [BI.bigSep_sdiff_split (Finset.subset_univ (Finset.univ.map ⟨osem, osem_inj⟩)), BI.bigSep_map]
  refine sep_elim_left.trans ?_
  rw [bigSep_cells]
  iintro ⟨HB, -, HR⟩
  isplitl [HB]
  · iapply (Entails.of_eq (congrArg cred (launch_bar c))); iexact HB
  · iapply (show _ ⊢ _ from bigSep_mono fun e _ => Entails.of_eq (congrArg cred (launch_recv c e))); iexact HR

/-! ## The levels of the staging cells -/

theorem lv_of_ne (g : GSem nD τ sig) (h : ∀ k, osem k ≠ g.2) : lv g () = 0 := by
  have : cellIx g.2 = none := by
    unfold cellIx Function.partialInv
    exact dif_neg fun ⟨k, hk⟩ => h k hk
  dsimp only [lv]; rw [this]

/-- The staging semaphores are none of the kernel's cells. -/
theorem lv_low (c : Dev nD) (q : DmaSem sig) (hq : q.val < 8) : lv ((c : Thread nD τ), .dma q) () = 0 := by
  refine lv_of_ne _ fun k hk => ?_
  rcases k with _ | ⟨_ | _, e⟩
  · exact absurd hk (fun h => nomatch h)
  · have : (sS e).val = q.val := congrArg Fin.val (SemLoc.dma.inj hk)
    rw [sS_val] at this; omega
  · have : (rS e).val = q.val := congrArg Fin.val (SemLoc.dma.inj hk)
    rw [rS_val] at this; omega

end Cert.MlpProof
-- ==== Proof.Run.lean ====
/-
The run of the kernel on the mesh: the pipeline's proof data, the body obligation from the body lemma, and the run of the whole
program from any memory with zero counters.
-/
module

public import proofs.«01_k».proof.Proof.Launch
public import proofs.«01_k».proof.Proof.Gen.KernelIdeal.Points
public import Idealize.ShloMosaic.Lib.Pipeline.CollectiveSegs
public import Idealize.ShloMosaic.Lib.Quiescent

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The blocks the launch memory holds. -/
def args : Args F where
  x c := (win0_0.blk (0 : Fin 1)).view.read (Elt F) (m ((c : Thread nD τ).loc main_arg0))
  wi k c := match k with
    | 0 => (win0_1.blk (0 : Fin 1)).view.read (Elt F) (m ((c : Thread nD τ).loc main_arg1))
    | 1 => (win0_3.blk (0 : Fin 1)).view.read (Elt F) (m ((c : Thread nD τ).loc main_arg2))
    | 2 => (win0_5.blk (0 : Fin 1)).view.read (Elt F) (m ((c : Thread nD τ).loc main_arg3))
  wo k c := match k with
    | 0 => (win0_2.blk (0 : Fin 1)).view.read (Elt F) (m ((c : Thread nD τ).loc main_arg4))
    | 1 => (win0_4.blk (0 : Fin 1)).view.read (Elt F) (m ((c : Thread nD τ).loc main_arg5))
    | 2 => (win0_6.blk (0 : Fin 1)).view.read (Elt F) (m ((c : Thread nD τ).loc main_arg6))

/-- What a device starts the body with, and what it ends it with. -/
def start (c : Dev nD) : sProp 𝕄 :=
  iprop(G' (args m) c ∗ (cred (tallyAt (barCell c) () 2) ∗ bigSep Finset.univ fun e : Ex => cred (tallyAt (recvCell c e) () (amt e.1))) ∗ levAts L lv)
def Φ₀ (c : Dev nD) : sProp 𝕄 :=
  iprop(start m c ∗ (bigSep Finset.univ fun e : Ex => sAny e c) ∗ bigSep Finset.univ fun e : Ex => rAny e c)
def Φ₁ (c : Dev nD) : sProp 𝕄 := iprop(semVal (barCell c) 0 ∗ bigSep Finset.univ fun e : Ex => done (args m) e c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (args m).x c
    | ⟨1, _⟩ => (args m).wi 0 c
    | ⟨2, _⟩ => (args m).wo 0 c
    | ⟨3, _⟩ => (args m).wi 1 c
    | ⟨4, _⟩ => (args m).wo 1 c
    | ⟨5, _⟩ => (args m).wi 2 c
    | ⟨6, _⟩ => (args m).wo 2 c
    | ⟨7, _⟩ => outVal (args m) c
  Φ t := match t with
    | ⟨0, _⟩ => Φ₀ m c
    | ⟨_ + 1, _⟩ => Φ₁ m c
  q _ := fullShare
  owed t := match t with
    | ⟨0, _⟩ => owed₀ c
    | ⟨_ + 1, _⟩ => 0

omit [FloatOps F] in
theorem bigSep_W (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

/-! ## The body obligation -/

section Body
variable (c : Dev nD)

theorem before_0 (d) : (dats m ρ 0 c).before (0 : Fin 8) t0_0 d = (args m).x c := by
  unfold Dat.before; rw [if_pos (fetch0_0 t0_0)]; rfl
theorem before_1 (d) : (dats m ρ 0 c).before (1 : Fin 8) t0_0 d = (args m).wi 0 c := by
  unfold Dat.before; rw [if_pos (fetch0_1 t0_0)]; rfl
theorem before_2 (d) : (dats m ρ 0 c).before (2 : Fin 8) t0_0 d = (args m).wo 0 c := by
  unfold Dat.before; rw [if_pos (fetch0_2 t0_0)]; rfl
theorem before_3 (d) : (dats m ρ 0 c).before (3 : Fin 8) t0_0 d = (args m).wi 1 c := by
  unfold Dat.before; rw [if_pos (fetch0_3 t0_0)]; rfl
theorem before_4 (d) : (dats m ρ 0 c).before (4 : Fin 8) t0_0 d = (args m).wo 1 c := by
  unfold Dat.before; rw [if_pos (fetch0_4 t0_0)]; rfl
theorem before_5 (d) : (dats m ρ 0 c).before (5 : Fin 8) t0_0 d = (args m).wi 2 c := by
  unfold Dat.before; rw [if_pos (fetch0_5 t0_0)]; rfl
theorem before_6 (d) : (dats m ρ 0 c).before (6 : Fin 8) t0_0 d = (args m).wo 2 c := by
  unfold Dat.before; rw [if_pos (fetch0_6 t0_0)]; rfl

/-- A staging buffer of the device at contents `X`. -/
abbrev stg (b : Ref sig .tc) (X : b.ty.Contents (Elt F)) : sProp 𝕄 := owns (c : Thread nD τ) (Memref.whole b) fullShare X

def bodyPre : sProp 𝕄 :=
  iprop(Φ₀ m c ∗ (dats m ρ 0 c).owesAt () t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))

def bodyPost : sProp 𝕄 :=
  iprop(Φ₁ m c ∗ (dats m ρ 0 c).owesAt () t0_0.succ
    ∗ stg c cc0_stg0_0 ((args m).x c) ∗ stg c cc0_stg1_0 ((args m).wi 0 c) ∗ stg c cc0_stg2_0 ((args m).wo 0 c)
    ∗ stg c cc0_stg3_0 ((args m).wi 1 c) ∗ stg c cc0_stg4_0 ((args m).wo 1 c) ∗ stg c cc0_stg5_0 ((args m).wi 2 c)
    ∗ stg c cc0_stg6_0 ((args m).wo 2 c) ∗ stg c cc0_stg7_0 (outVal (args m) c))

/-- What the body lemma asks, from what the launch left. -/
theorem entry_intro (K : Dev nD × Kx → ℕ) :
    iprop(linear c ∗ (cred (tallyAt (barCell c) () 2) ∗ bigSep Finset.univ fun e : Ex => cred (tallyAt (recvCell c e) () (amt e.1)))
        ∗ (bigSep Finset.univ fun e : Ex => sAny e c) ∗ (bigSep Finset.univ fun e : Ex => rAny e c) ∗ ∃ W, owes (c : Thread nD τ) (owed₀ c) W)
      ⊢ (entry (F := F) c : sProp 𝕄) := by
  unfold linear payToks entry keys
  rw [bigSep_cells]
  simp only [bigSep_sep']
  iintro ⟨⟨⟨HaB, HaS, HaR⟩, HtX, HtY, HtS, HtR⟩, ⟨HcB, HcR⟩, HS, HR, HO⟩
  isplitl [HtY]; · iexact HtY
  isplitl [HtX]; · iexact HtX
  isplitl [HaB]; · iexact HaB
  isplitl [HcB]; · iexact HcB
  isplitl [HR]; · iexact HR
  isplitr [HO]
  · isplitl [HS]; · iexact HS
    isplitl [HtS]; · iexact HtS
    isplitl [HtR]; · iexact HtR
    isplitl [HaS]; · iexact HaS
    isplitl [HaR]; · iexact HaR
    iexact HcR
  iexact HO

set_option maxHeartbeats 1000000 in
theorem sound : bodyPre m ρ c ⊢ wpB c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) (fun _ => bodyPost m ρ c) := by
  unfold bodyPre Φ₀ start G'
  simp only [before_0, before_1, before_2, before_3, before_4, before_5, before_6]
  iintro ⟨⟨⟨⟨%K, #HK, Hlin⟩, Hc, #Hlev⟩, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  unfold Dat.owesAt Pipeline.owesWithin
  icases Ho with ⟨%W, %hW, HO⟩
  rw [show (dats m ρ 0 c).owed t0_0.castSucc = owed₀ c from rfl]
  ihave H7 := (Entails.of_eq (owns_buf (F := F) c cc0_stg7_0 _)) $$ H7
  iapply (body (args m) K c _) $$ [Hlin Hc HS HR HO H0 H1 H2 H3 H4 H5 H6 H7]
  · isplitr
    · unfold env records
      isplitl
      · iexact HK
      · iexact Hlev
    isplitl [H0 H1 H2 H3 H4 H5 H6]
    · unfold ins
      isplitl [H0]; · iexact H0
      isplitl [H1]; · iexact H1
      isplitl [H2]; · iexact H2
      isplitl [H3]; · iexact H3
      isplitl [H4]; · iexact H4
      isplitl [H5]; · iexact H5
      iexact H6
    isplitr [H7]
    · iapply (entry_intro (F := F) c K)
      isplitl [Hlin]; · iexact Hlin
      isplitl [Hc]; · iexact Hc
      isplitl [HS]; · iexact HS
      isplitl [HR]; · iexact HR
      iexists W; iexact HO
    · iexact H7
  unfold closed ins bodyPost Φ₁
  iintro ⟨⟨H0, H1, H2, H3, H4, H5, H6⟩, H7, Hz, HD, ⟨%W', HO⟩⟩
  isplitl [Hz HD]
  · isplitl [Hz] <;> iassumption
  isplitl [HO]
  · unfold Dat.owesAt Pipeline.owesWithin
    iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (Entails.of_eq (owns_buf (F := F) c cc0_stg7_0 _).symm); iexact H7

set_option maxRecDepth 32000 in
set_option maxHeartbeats 2000000 in
theorem body_obligation : BodyObligation (dats (F := F) m ρ 0 c) (defs₀ (F := F)) 𝒱₀ () Set.univ := fun t => by
  rw [fin_N0 t]
  rw [bigSep_W, bigSep_W]
  exact sound m ρ c

end Body

/-! ## The side conditions of the launch -/

theorem ownSemFacts : Pipeline.OwnSemFacts cfg0.spec dsem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (args m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iapply (scratch_split (F := F) c)
  unfold scratch; iexact Hr

theorem phi1_exit (c : Dev nD) :
    (dats m ρ 0 c).Φ (Fin.last cfg0.N) ⊢ iprop(unscopedSems0 c ∗ Pipeline.ownSems0 dsem c ∗ Pipeline.scopedRest cfg0.spec c) := by
  rw [show (dats m ρ 0 c).Φ (Fin.last cfg0.N) = Φ₁ m c from rfl, scopedRest0_eq, unscopedSems0_eq]
  unfold Φ₁ done
  simp only [bigSep_sep']
  iintro ⟨HzB, HS, HR, HzS, HzR⟩
  isplitl [HzB]; · iexact HzB
  isplitl [HzS HzR]
  · unfold Pipeline.ownSems0
    iapply (Entails.of_eq (bigSep_kinds (fun k : Bool × Ex => (semVal ((c : Thread nD τ), dsem k) 0 : sProp 𝕄))).symm)
    isplitl [HzS]
    · iexact HzS
    · iexact HzR
  iapply (show scratch (F := F) c ⊢ _ from by unfold scratch; iintro H; iexact H)
  iapply (scratch_join (F := F) c)
  isplitl [HS]
  · iapply (show _ ⊢ _ from bigSep_mono fun e _ => sVal_any (args m) e c); iexact HS
  · iapply (show _ ⊢ _ from bigSep_mono fun e _ => rVal_any (args m) e c); iexact HR

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_low c _ (by fin_cases w <;> fin_cases s <;> decide)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
set_option maxHeartbeats 1000000 in
/-- From any memory with zero counters, for any float values: every weakly fair execution of the program on the four devices
    terminates, and every final state has every window's array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G (args m)) (G' := G' (args m)) (u₀ := u₀)
    (hu₀ := by
      unfold u₀
      iintro Hu
      ihave H := (ownU_pair _ _) $$ Hu
      icases H with ⟨HP, HX⟩
      imod (fund_all (args m)) $$ HX with HG
      imodintro
      isplitl [HP] <;> iassumption)
    (hglob := glob (args m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input window's array holds after the run what it held. -/
theorem finalA_in (c : Dev nD) (w : Fin cfg0.W) (h : (cfg0.win w).isOut = false) :
    finalA m ρ c w = m ((cfg0.win w).arr.view.loc (c : Thread nD τ)) :=
  (dats (F := F) m ρ 0 c).arrAt_in w h _

end Cert.MlpProof
-- ==== Proof.Frames.lean ====
/-
The frame claims: the kernel, its ideal reading and the reference run, their arguments end unchanged and every semaphore
counter ends at zero.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The arguments after the run. -/
theorem args_kept {m : (ℓ : Loc nD τ sig) → Buf (Elt F) ℓ} {ρ : Dev nD → PrngReg} {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c (0 : Fin 8)).trans (finalA_in m ρ c (0 : Fin 8) rfl), (h c (1 : Fin 8)).trans (finalA_in m ρ c (1 : Fin 8) rfl),
    (h c (3 : Fin 8)).trans (finalA_in m ρ c (3 : Fin 8) rfl), (h c (5 : Fin 8)).trans (finalA_in m ρ c (5 : Fin 8) rfl),
    (h c (2 : Fin 8)).trans (finalA_in m ρ c (2 : Fin 8) rfl), (h c (4 : Fin 8)).trans (finalA_in m ρ c (4 : Fin 8) rfl),
    (h c (6 : Fin 8)).trans (finalA_in m ρ c (6 : Fin 8) rfl)⟩

/-- The run on four devices, for any float values: the arguments end unchanged, every semaphore counter ends at zero. -/
theorem frame_any (m : (ℓ : Loc nD τ sig) → Buf (Elt F) ℓ) (ρ : Dev nD → PrngReg) :
    θ_run (Cert.KernelIdeal.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run (Cert.KernelIdeal.defs (F := F)) _ _).mono (fun _ h => ⟨fun c => args_kept h.1 c, h.2⟩) (run_main m ρ)

theorem frame_kernelIdeal : Cert.quiescent_KernelIdeal := fun m ρ _ => frame_any (F := Ideal) m ρ

/-! ## The kernel as printed

The kernel and its ideal reading have one text, so the run above serves both. -/

set_option maxRecDepth 100000 in
/-- The body label runs one program in both. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl

set_option maxRecDepth 100000 in
/-- One table of bodies. -/
theorem defs_eq : Cert.Kernel.defs (F := F) = Cert.KernelIdeal.defs (F := F) :=
  congrArg (Pipeline.defs Cert.KernelIdeal.pcfgs) (defs₀_eq (F := F))

set_option maxRecDepth 100000 in
/-- One main program. -/
theorem main_eq : Cert.Kernel.main (F := F) = Cert.KernelIdeal.main (F := F) := rfl

/-- `Cert.quiescent_Kernel`: the kernel's run, at the bit patterns. -/
theorem frame_kernel : Cert.quiescent_Kernel := fun m ρ _ =>
  (congrArg₂ (fun d p => θ_run (nD := Cert.KernelIdeal.nD) d (onTc (τ := τ) p) ⟨m, fun _ => 0, ρ⟩ _)
    (defs_eq (F := Bits)) (main_eq (F := Bits))).mpr (frame_any (F := Bits) m ρ)

/-- `Cert.quiescent_ReferenceIdeal`: the reference's run; its counters because it declares no semaphore. -/
theorem frame_reference : Cert.quiescent_ReferenceIdeal := by
  intro m ρ _
  exact (θ_run Cert.ReferenceIdeal.defs _ _).mono (fun r h => ⟨fun c => (h c).2,
    Idealize.ShloMosaic.sem_eq_zero_of_no_sems (by decide) r.2⟩) (Cert.ReferenceIdeal.Value.run (F := Ideal) m ρ)

end Cert.MlpProof
-- ==== Proof.Result.lean ====
/-
What the windows are of the arrays: every window is the whole array, so the operands' blocks are the argument buffers and
the result buffer ends holding `outVal`.
-/
module

public import proofs.«01_k».proof.Proof.Run
public import Idealize.ShloMosaic.Lib.Pipeline.Value

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (m : (ℓ : Loc nD τ sig) → Buf (Elt F) ℓ) (ρ : Dev nD → PrngReg) (c : Dev nD)

/-- Reading a whole buffer's block at index 0 reads the buffer. -/
theorem whole_block (b : Ref sig .tc) (ix : Fin b.ty.shape.rank → Nat) (h : ∀ a, ix a = 0) (f : b.ty.Contents (Elt F)) :
    View.read (Elt F) ((Memref.whole b).access (Rect.unit (fun a => ix a * b.ty.shape.size a) b.ty.shape.size
      (fun a => by rw [h a]; omega))) f = f :=
  Memref.read_access_unit_zero (Elt F) b (funext fun a => by rw [h a]; omega) _ f

/-- The input block is the input buffer. -/
theorem args_x : (args m).x c = m ((c : Thread nD τ).loc main_arg0) := by
  have h := whole_block (F := F) main_arg0 (win0_0.index (0 : Fin 1)) (by decide) (m ((c : Thread nD τ).loc main_arg0))
  unfold args
  exact h
/-- Each weight block is its buffer. -/
theorem args_wi0 : (args m).wi 0 c = m ((c : Thread nD τ).loc main_arg1) := by
  have h := whole_block (F := F) main_arg1 (win0_1.index (0 : Fin 1)) (by decide) (m ((c : Thread nD τ).loc main_arg1))
  unfold args
  exact h
theorem args_wi1 : (args m).wi 1 c = m ((c : Thread nD τ).loc main_arg2) := by
  have h := whole_block (F := F) main_arg2 (win0_3.index (0 : Fin 1)) (by decide) (m ((c : Thread nD τ).loc main_arg2))
  unfold args
  exact h
theorem args_wi2 : (args m).wi 2 c = m ((c : Thread nD τ).loc main_arg3) := by
  have h := whole_block (F := F) main_arg3 (win0_5.index (0 : Fin 1)) (by decide) (m ((c : Thread nD τ).loc main_arg3))
  unfold args
  exact h
theorem args_wo0 : (args m).wo 0 c = m ((c : Thread nD τ).loc main_arg4) := by
  have h := whole_block (F := F) main_arg4 (win0_2.index (0 : Fin 1)) (by decide) (m ((c : Thread nD τ).loc main_arg4))
  unfold args
  exact h
theorem args_wo1 : (args m).wo 1 c = m ((c : Thread nD τ).loc main_arg5) := by
  have h := whole_block (F := F) main_arg5 (win0_4.index (0 : Fin 1)) (by decide) (m ((c : Thread nD τ).loc main_arg5))
  unfold args
  exact h
theorem args_wo2 : (args m).wo 2 c = m ((c : Thread nD τ).loc main_arg6) := by
  have h := whole_block (F := F) main_arg6 (win0_6.index (0 : Fin 1)) (by decide) (m ((c : Thread nD τ).loc main_arg6))
  unfold args
  exact h

/-- The result block after the run is what the one point wrote back. -/
theorem final_read : ((cfg0.win (7 : Fin 8)).blk t0_0).view.read (Elt F) (finalA m ρ c 7) = (dats m ρ 0 c).flushed (7 : Fin 8) t0_0 := by
  unfold finalA
  rw [show cfg0.N = (t0_0 : Fin cfg0.N).val + 1 from rfl, (dats m ρ 0 c).arrAt_succ (7 : Fin 8) t0_0]
  rw [show (cfg0.win (7 : Fin 8)).flush t0_0 = true from by decide, if_pos rfl]
  exact View.read_write_univ _ _

/-- The result buffer ends holding the result block. -/
theorem final_out : finalA m ρ c 7 = outVal (args m) c := by
  have ho := final_read m ρ c
  have hr := Memref.read_access_unit_zero (Elt F) main_v1 (off := fun a => (win0_7.index (0 : Fin 1)) a * main_v1.ty.shape.size a)
    (funext fun a => by fin_cases a <;> decide) (fun a => by fin_cases a <;> decide)
  exact ((hr _).symm.trans ho).trans rfl
end

end Cert.MlpProof
-- ==== Proof.Slots.lean ====
/-
The kernel's slots at the ideal floats, element by element: a slot is a function of two coordinates, every product a sum
over `Fin` of products of extended reals.
-/
module

public import proofs.«01_k».proof.Proof.Values
public import Idealize.ShloMosaic.PureOps.Ideal
public import Idealize.ShloMosaic.Lib.Pointwise

@[expose] public section

noncomputable section

namespace Cert.MlpProof

open Cert.KernelIdeal Cert.KernelIdeal.Gen
open Idealize.ShloMosaic

variable {F : FTy → Type} [FloatOps F]

/-! ## The bodies' expressions, named once for all the layers -/

/-- A hidden slot of layer 0: the product of the input block and half of the weight block. -/
def hFirst (x : Vec F S64x512 .bf16) (w : Vec F S512x512 .bf16) : Vec F S1x64x512 .bf16 := k0_pay3 x w
/-- A hidden slot of a later layer: both column halves of the layer's input (own and received parts), times the upper and
    the lower part of the weight block. -/
def hNext (aL bL aR bR : Vec F S1x64x256 .bf16) (wU wD : Vec F S256x512 .bf16) : Vec F S1x64x512 .bf16 :=
  k0_pay19 (k0_pay15 (k0_pay13 aL) bL wU) (k0_pay17 aR) bR wD
/-- A result slot: both column halves of the hidden activations (own and received parts), times the upper and the lower
    part of the weight block. -/
def oNext (aL bL aR bR : Vec F S1x64x512 .bf16) (wU wD : Vec F S512x256 .bf16) : Vec F S1x64x256 .bf16 :=
  k0_pay12 (k0_pay8 (k0_pay5 aL bL) (k0_pay7 wU)) (k0_pay9 aR bR) wD

section Named
variable (A : Args F) (c : Dev nD)
theorem hv0_eq : hv0 A c = hFirst (ldx (A.x c)) (wiL (A.wi 0 c)) := rfl
theorem hv1_eq : hv1 A c = hFirst (ldx (A.x c)) (wiR (A.wi 0 c)) := rfl
theorem ov0_eq : ov0 A c = oNext (hv0 A c) (hv0 A (yP c)) (hv1 A c) (hv1 A (yP c)) (woUL (A.wo 0 c)) (woDL (A.wo 0 c)) := rfl
theorem ov1_eq : ov1 A c = oNext (hv0 A c) (hv0 A (yP c)) (hv1 A c) (hv1 A (yP c)) (woUR (A.wo 0 c)) (woDR (A.wo 0 c)) := rfl
theorem hv2_eq : hv2 A c = hNext (ov0 A c) (ov0 A (xP c)) (ov1 A c) (ov1 A (xP c)) (wiUL (A.wi 1 c)) (wiDL (A.wi 1 c)) := rfl
theorem hv3_eq : hv3 A c = hNext (ov0 A c) (ov0 A (xP c)) (ov1 A c) (ov1 A (xP c)) (wiUR (A.wi 1 c)) (wiDR (A.wi 1 c)) := rfl
theorem ov2_eq : ov2 A c = oNext (hv2 A c) (hv2 A (yP c)) (hv3 A c) (hv3 A (yP c)) (woUL (A.wo 1 c)) (woDL (A.wo 1 c)) := rfl
theorem ov3_eq : ov3 A c = oNext (hv2 A c) (hv2 A (yP c)) (hv3 A c) (hv3 A (yP c)) (woUR (A.wo 1 c)) (woDR (A.wo 1 c)) := rfl
theorem hv4_eq : hv4 A c = hNext (ov2 A c) (ov2 A (xP c)) (ov3 A c) (ov3 A (xP c)) (wiUL (A.wi 2 c)) (wiDL (A.wi 2 c)) := rfl
theorem hv5_eq : hv5 A c = hNext (ov2 A c) (ov2 A (xP c)) (ov3 A c) (ov3 A (xP c)) (wiUR (A.wi 2 c)) (wiDR (A.wi 2 c)) := rfl
theorem ov4_eq : ov4 A c = oNext (hv4 A c) (hv4 A (yP c)) (hv5 A c) (hv5 A (yP c)) (woUL (A.wo 2 c)) (woDL (A.wo 2 c)) := rfl
theorem ov5_eq : ov5 A c = oNext (hv4 A c) (hv4 A (yP c)) (hv5 A c) (hv5 A (yP c)) (woUR (A.wo 2 c)) (woDR (A.wo 2 c)) := rfl
end Named

/-! ## At an element -/

theorem hFirst_apply (x : Vec Ideal S64x512 .bf16) (w : Vec Ideal S512x512 .bf16) (i : Fin 64) (j : Fin 512) :
    hFirst (F := Ideal) x w (ix3 (0 : Fin 1) i j) = ∑ k : Fin 512, x (ix2 i k) * w (ix2 k j) := by
  pointwise [hFirst, k0_pay3, k0_pay2]

theorem hNext_apply (aL bL aR bR : Vec Ideal S1x64x256 .bf16) (wU wD : Vec Ideal S256x512 .bf16) (i : Fin 64) (j : Fin 512) :
    hNext (F := Ideal) aL bL aR bR wU wD (ix3 (0 : Fin 1) i j) =
      ∑ k : Fin 256, (aL (ix3 (0 : Fin 1) i k) + bL (ix3 (0 : Fin 1) i k)) * wU (ix2 k j)
        + ∑ k : Fin 256, (aR (ix3 (0 : Fin 1) i k) + bR (ix3 (0 : Fin 1) i k)) * wD (ix2 k j) := by
  pointwise [hNext, k0_pay19, k0_pay15, k0_pay14, k0_pay18, k0_pay13, k0_pay17]

theorem oNext_apply (aL bL aR bR : Vec Ideal S1x64x512 .bf16) (wU wD : Vec Ideal S512x256 .bf16) (i : Fin 64) (j : Fin 256) :
    oNext (F := Ideal) aL bL aR bR wU wD (ix3 (0 : Fin 1) i j) =
      ∑ k : Fin 512, max (aL (ix3 (0 : Fin 1) i k) + bL (ix3 (0 : Fin 1) i k)) 0 * wU (ix2 k j)
        + ∑ k : Fin 512, max (aR (ix3 (0 : Fin 1) i k) + bR (ix3 (0 : Fin 1) i k)) 0 * wD (ix2 k j) := by
  pointwise [oNext, k0_pay12, k0_pay8, k0_pay5, k0_pay7, k0_pay9]

theorem outL_apply (A : Args Ideal) (c : Dev nD) (i : Fin 64) (j : Fin 256) :
    outL A c (ix2 i j) = ov4 A c (ix3 (0 : Fin 1) i j) + ov4 A (xP c) (ix3 (0 : Fin 1) i j) := by
  pointwise [outL, k0_pay40]
theorem outR_apply (A : Args Ideal) (c : Dev nD) (i : Fin 64) (j : Fin 256) :
    outR A c (ix2 i j) = ov5 A c (ix3 (0 : Fin 1) i j) + ov5 A (xP c) (ix3 (0 : Fin 1) i j) := by
  pointwise [outR, k0_pay1]

end Cert.MlpProof
-- ==== Proof.Layers.lean ====
/-
What the slots are of the whole arrays. `xN l`, `hN l` are the layers' inputs and hidden activations as functions of two
natural numbers; a device's slots are partial sums of them (`hP`, `oP`), two of which add up to the whole sum.
-/
module

public import proofs.«01_k».proof.Proof.Slots

@[expose] public section

noncomputable section

namespace Cert.MlpProof

open Cert.KernelIdeal Cert.KernelIdeal.Gen
open Idealize.ShloMosaic
/-! ## The layers, over natural coordinates -/

/-- The whole arrays as functions of row and column. -/
structure Arrays where
  x : Nat → Nat → EReal
  wi : Fin 3 → Nat → Nat → EReal
  wo : Fin 3 → Nat → Nat → EReal

/-- One layer's hidden activations from its input. -/
def hid (W : Nat → Nat → EReal) (x : Nat → Nat → EReal) (i j : Nat) : EReal :=
  max (∑ k ∈ Finset.range 1024, x i k * W k j) 0
/-- One layer's result from its hidden activations. -/
def res (W : Nat → Nat → EReal) (h : Nat → Nat → EReal) (i j : Nat) : EReal :=
  ∑ k ∈ Finset.range 2048, h i k * W k j

/-- The partial hidden sum that the devices of coordinate `y` compute: 512 of the 1024 terms. -/
def hP (W : Nat → Nat → EReal) (x : Nat → Nat → EReal) (y i j : Nat) : EReal :=
  ∑ k ∈ Finset.range 512, x i (512 * y + k) * W (512 * y + k) j
/-- The partial result that the devices of coordinate `x` compute: 1024 of the 2048 terms. -/
def oP (W : Nat → Nat → EReal) (h : Nat → Nat → EReal) (x i j : Nat) : EReal :=
  ∑ k ∈ Finset.range 1024, h i (1024 * x + k) * W (1024 * x + k) j

theorem hP_add (W x : Nat → Nat → EReal) (i j : Nat) :
    hP W x 0 i j + hP W x 1 i j = ∑ k ∈ Finset.range 1024, x i k * W k j := by
  unfold hP
  rw [show 1024 = 512 + 512 from rfl, Finset.sum_range_add]
  simp

theorem oP_add (W h : Nat → Nat → EReal) (i j : Nat) : oP W h 0 i j + oP W h 1 i j = res W h i j := by
  unfold oP res
  rw [show 2048 = 1024 + 1024 from rfl, Finset.sum_range_add]
  simp

/-- A partial hidden sum by the two column halves of the input block. -/
theorem hP_split (W x : Nat → Nat → EReal) (y i j : Nat) : hP W x y i j =
    ∑ k : Fin 256, x i (512 * y + k.val) * W (512 * y + k.val) j
      + ∑ k : Fin 256, x i (512 * y + (256 + k.val)) * W (512 * y + (256 + k.val)) j := by
  unfold hP
  refine (Finset.sum_range_add _ 256 256).trans ?_
  rw [Finset.sum_range, Finset.sum_range]

/-- A partial result by the two column halves of the hidden block. -/
theorem oP_split (W h : Nat → Nat → EReal) (x i j : Nat) : oP W h x i j =
    ∑ k : Fin 512, h i (1024 * x + k.val) * W (1024 * x + k.val) j
      + ∑ k : Fin 512, h i (1024 * x + (512 + k.val)) * W (1024 * x + (512 + k.val)) j := by
  unfold oP
  refine (Finset.sum_range_add _ 512 512).trans ?_
  rw [Finset.sum_range, Finset.sum_range]

/-- A device's partial hidden sum and its `y` neighbour's make the whole sum. -/
theorem hP_pair (W x : Nat → Nat → EReal) (c : Dev nD) (i j : Nat) :
    hP W x (c.val % 2) i j + hP W x ((yP c).val % 2) i j = ∑ k ∈ Finset.range 1024, x i k * W k j := by
  have h : (c.val % 2 = 0 ∧ (yP c).val % 2 = 1) ∨ (c.val % 2 = 1 ∧ (yP c).val % 2 = 0) := by revert c; decide
  rcases h with ⟨h1, h2⟩ | ⟨h1, h2⟩ <;> rw [h1, h2]
  · exact hP_add W x i j
  · rw [add_comm]; exact hP_add W x i j

/-- A device's partial result and its `x` neighbour's make the whole result. -/
theorem oP_pair (W h : Nat → Nat → EReal) (c : Dev nD) (i j : Nat) :
    oP W h (c.val / 2) i j + oP W h ((xP c).val / 2) i j = res W h i j := by
  have h : (c.val / 2 = 0 ∧ (xP c).val / 2 = 1) ∨ (c.val / 2 = 1 ∧ (xP c).val / 2 = 0) := by revert c; decide
  rcases h with ⟨h1, h2⟩ | ⟨h1, h2⟩ <;> rw [h1, h2]
  · exact oP_add W _ i j
  · rw [add_comm]; exact oP_add W _ i j

/-! ## The blocks -/

/-- The devices' blocks `A` are those of the whole arrays `B`: device `2 * x + y` holds column half `y` of the input,
    block `(y, x)` of the input weights and block `(x, y)` of the output weights. -/
structure Blocks (A : Args Ideal) (B : Arrays) : Prop where
  x : ∀ c (i : Fin 64) (k : Fin 512), A.x c (ix2 i k) = B.x i.val (512 * (c.val % 2) + k.val)
  wi : ∀ l c (k : Fin 512) (j : Fin 1024), A.wi l c (ix2 k j) = B.wi l (512 * (c.val % 2) + k.val) (1024 * (c.val / 2) + j.val)
  wo : ∀ l c (k : Fin 1024) (j : Fin 512), A.wo l c (ix2 k j) = B.wo l (1024 * (c.val / 2) + k.val) (512 * (c.val % 2) + j.val)

/-- The two hidden slots `sL`, `sR` of every device are the two column halves of the partial sums of the input `x`. -/
def HSlots (W x : Nat → Nat → EReal) (sL sR : Dev nD → Vec Ideal S1x64x512 .bf16) : Prop :=
  ∀ c (i : Fin 64) (j : Fin 512),
    sL c (ix3 (0 : Fin 1) i j) = hP W x (c.val % 2) i.val (1024 * (c.val / 2) + j.val)
    ∧ sR c (ix3 (0 : Fin 1) i j) = hP W x (c.val % 2) i.val (1024 * (c.val / 2) + (512 + j.val))

/-- The two result slots `sL`, `sR` of every device are the two column halves of the partial sums of the hidden `h`. -/
def OSlots (W h : Nat → Nat → EReal) (sL sR : Dev nD → Vec Ideal S1x64x256 .bf16) : Prop :=
  ∀ c (i : Fin 64) (j : Fin 256),
    sL c (ix3 (0 : Fin 1) i j) = oP W h (c.val / 2) i.val (512 * (c.val % 2) + j.val)
    ∧ sR c (ix3 (0 : Fin 1) i j) = oP W h (c.val / 2) i.val (512 * (c.val % 2) + (256 + j.val))

/-- Own and received hidden slot together, cut at zero: the hidden activations. -/
theorem HSlots.sum {W x : Nat → Nat → EReal} {sL sR : Dev nD → Vec Ideal S1x64x512 .bf16} (h : HSlots W x sL sR) (c : Dev nD)
    (i : Fin 64) (j : Fin 512) :
    max (sL c (ix3 (0 : Fin 1) i j) + sL (yP c) (ix3 (0 : Fin 1) i j)) 0 = hid W x i.val (1024 * (c.val / 2) + j.val)
    ∧ max (sR c (ix3 (0 : Fin 1) i j) + sR (yP c) (ix3 (0 : Fin 1) i j)) 0 = hid W x i.val (1024 * (c.val / 2) + (512 + j.val)) := by
  have hx : (yP c).val / 2 = c.val / 2 := by revert c; decide
  rw [(h c i j).1, (h c i j).2, (h (yP c) i j).1, (h (yP c) i j).2, hx, hP_pair, hP_pair]
  exact ⟨rfl, rfl⟩

/-- Own and received result slot together: the layer's result. -/
theorem OSlots.sum {W h : Nat → Nat → EReal} {sL sR : Dev nD → Vec Ideal S1x64x256 .bf16} (hs : OSlots W h sL sR) (c : Dev nD)
    (i : Fin 64) (j : Fin 256) :
    sL c (ix3 (0 : Fin 1) i j) + sL (xP c) (ix3 (0 : Fin 1) i j) = res W h i.val (512 * (c.val % 2) + j.val)
    ∧ sR c (ix3 (0 : Fin 1) i j) + sR (xP c) (ix3 (0 : Fin 1) i j) = res W h i.val (512 * (c.val % 2) + (256 + j.val)) := by
  have hx : (xP c).val % 2 = c.val % 2 := by revert c; decide
  rw [(hs c i j).1, (hs c i j).2, (hs (xP c) i j).1, (hs (xP c) i j).2, hx, oP_pair, oP_pair]
  exact ⟨rfl, rfl⟩

/-! ## The loads -/

/-- A load of part of a block, at an element. -/
theorem ld_at {M N n m : Nat} (W : Vec Ideal ⟨2, ![M, N]⟩ .bf16) (a b : Nat)
    (inb : ∀ d, (![a, b] : Fin 2 → Nat) d + (![n, m] : Fin 2 → Nat) d ≤ (![M, N] : Fin 2 → Nat) d) (k : Fin n) (j : Fin m)
    (hk : a + k.val < M) (hj : b + j.val < N) :
    View.ld W (Rect.unit (s := ⟨2, ![M, N]⟩) ![a, b] ![n, m] inb) (ix2 k j) = W (ix2 ⟨a + k.val, hk⟩ ⟨b + j.val, hj⟩) := by
  rw [View.ld_unit]
  show W _ = _
  congr 1
  funext d
  match d with
  | ⟨0, _⟩ => rfl
  | ⟨1, _⟩ => rfl

section Steps
variable {A : Args Ideal} {B : Arrays} (H : Blocks A B)
include H

/-- The input block's load. -/
theorem ldx_at (c : Dev nD) (i : Fin 64) (k : Fin 512) :
    ldx (A.x c) (ix2 i k) = B.x i.val (512 * (c.val % 2) + k.val) := by
  refine (ld_at (A.x c) 0 0 inb_S64x512_S64x512_0_0 i k (by omega) (by omega)).trans ((H.x c _ _).trans ?_)
  simp only [Nat.zero_add]

/-- A load of an input weight's part from row `a`, column `b` on. -/
theorem wi_at {n m : Nat} (l : Fin 3) (c : Dev nD) (a b : Nat)
    (inb : ∀ d, (![a, b] : Fin 2 → Nat) d + (![n, m] : Fin 2 → Nat) d ≤ (![512, 1024] : Fin 2 → Nat) d) (k : Fin n) (j : Fin m) :
    View.ld (A.wi l c) (Rect.unit (s := S512x1024) ![a, b] ![n, m] inb) (ix2 k j)
      = B.wi l (512 * (c.val % 2) + (a + k.val)) (1024 * (c.val / 2) + (b + j.val)) := by
  have h0 : a + n ≤ 512 := inb 0
  have h1 : b + m ≤ 1024 := inb 1
  exact (ld_at (A.wi l c) a b inb k j (by omega) (by omega)).trans (H.wi l c _ _)

/-- A load of an output weight's part from row `a`, column `b` on. -/
theorem wo_at {n m : Nat} (l : Fin 3) (c : Dev nD) (a b : Nat)
    (inb : ∀ d, (![a, b] : Fin 2 → Nat) d + (![n, m] : Fin 2 → Nat) d ≤ (![1024, 512] : Fin 2 → Nat) d) (k : Fin n) (j : Fin m) :
    View.ld (A.wo l c) (Rect.unit (s := S1024x512) ![a, b] ![n, m] inb) (ix2 k j)
      = B.wo l (1024 * (c.val / 2) + (a + k.val)) (512 * (c.val % 2) + (b + j.val)) := by
  have h0 : a + n ≤ 1024 := inb 0
  have h1 : b + m ≤ 512 := inb 1
  exact (ld_at (A.wo l c) a b inb k j (by omega) (by omega)).trans (H.wo l c _ _)

/-! ## The steps -/

/-- A hidden slot of layer 0, its columns from `b` on. -/
theorem first_part (c : Dev nD) (b : Nat)
    (inb : ∀ d, (![0, b] : Fin 2 → Nat) d + (![512, 512] : Fin 2 → Nat) d ≤ (![512, 1024] : Fin 2 → Nat) d) (i : Fin 64) (j : Fin 512) :
    hFirst (ldx (A.x c)) (View.ld (A.wi 0 c) (Rect.unit (s := S512x1024) ![0, b] ![512, 512] inb)) (ix3 (0 : Fin 1) i j)
      = hP (B.wi 0) B.x (c.val % 2) i.val (1024 * (c.val / 2) + (b + j.val)) := by
  rw [hFirst_apply, hP, Finset.sum_range]
  refine Finset.sum_congr rfl fun k _ => ?_
  rw [ldx_at H c i k, wi_at H 0 c 0 b inb k j, Nat.zero_add]

/-- The hidden slots of layer 0. -/
theorem first_slots : HSlots (B.wi 0) B.x (hv0 A) (hv1 A) := fun c i j =>
  ⟨(first_part H c 0 inb_S512x1024_S512x512_0_0 i j).trans (by rw [Nat.zero_add]),
    first_part H c 512 inb_S512x1024_S512x512_0_512 i j⟩

/-- A hidden slot of a later layer, its columns from `b` on. -/
theorem next_part (l : Fin 3) {W h : Nat → Nat → EReal} {sL sR : Dev nD → Vec Ideal S1x64x256 .bf16} (hs : OSlots W h sL sR)
    (c : Dev nD) (b : Nat)
    (inbU : ∀ d, (![0, b] : Fin 2 → Nat) d + (![256, 512] : Fin 2 → Nat) d ≤ (![512, 1024] : Fin 2 → Nat) d)
    (inbD : ∀ d, (![256, b] : Fin 2 → Nat) d + (![256, 512] : Fin 2 → Nat) d ≤ (![512, 1024] : Fin 2 → Nat) d) (i : Fin 64) (j : Fin 512) :
    hNext (sL c) (sL (xP c)) (sR c) (sR (xP c)) (View.ld (A.wi l c) (Rect.unit (s := S512x1024) ![0, b] ![256, 512] inbU))
        (View.ld (A.wi l c) (Rect.unit (s := S512x1024) ![256, b] ![256, 512] inbD)) (ix3 (0 : Fin 1) i j)
      = hP (B.wi l) (res W h) (c.val % 2) i.val (1024 * (c.val / 2) + (b + j.val)) := by
  rw [hNext_apply, hP_split]
  congr 1
  · refine Finset.sum_congr rfl fun k _ => ?_
    rw [(hs.sum c i k).1, wi_at H l c 0 b inbU k j, Nat.zero_add]
  · refine Finset.sum_congr rfl fun k _ => ?_
    rw [(hs.sum c i k).2, wi_at H l c 256 b inbD k j]

/-- The hidden slots of a later layer from the result slots of the layer before. -/
theorem next_slots (l : Fin 3) {W h : Nat → Nat → EReal} {sL sR : Dev nD → Vec Ideal S1x64x256 .bf16} (hs : OSlots W h sL sR) :
    HSlots (B.wi l) (res W h) (fun c => hNext (sL c) (sL (xP c)) (sR c) (sR (xP c)) (wiUL (A.wi l c)) (wiDL (A.wi l c)))
      (fun c => hNext (sL c) (sL (xP c)) (sR c) (sR (xP c)) (wiUR (A.wi l c)) (wiDR (A.wi l c))) := fun c i j =>
  ⟨(next_part H l hs c 0 inb_S512x1024_S256x512_0_0 inb_S512x1024_S256x512_256_0 i j).trans (by rw [Nat.zero_add]),
    next_part H l hs c 512 inb_S512x1024_S256x512_0_512 inb_S512x1024_S256x512_256_512 i j⟩

/-- A result slot, its columns from `b` on. -/
theorem result_part (l : Fin 3) {W x : Nat → Nat → EReal} {sL sR : Dev nD → Vec Ideal S1x64x512 .bf16} (hs : HSlots W x sL sR)
    (c : Dev nD) (b : Nat)
    (inbU : ∀ d, (![0, b] : Fin 2 → Nat) d + (![512, 256] : Fin 2 → Nat) d ≤ (![1024, 512] : Fin 2 → Nat) d)
    (inbD : ∀ d, (![512, b] : Fin 2 → Nat) d + (![512, 256] : Fin 2 → Nat) d ≤ (![1024, 512] : Fin 2 → Nat) d) (i : Fin 64) (j : Fin 256) :
    oNext (sL c) (sL (yP c)) (sR c) (sR (yP c)) (View.ld (A.wo l c) (Rect.unit (s := S1024x512) ![0, b] ![512, 256] inbU))
        (View.ld (A.wo l c) (Rect.unit (s := S1024x512) ![512, b] ![512, 256] inbD)) (ix3 (0 : Fin 1) i j)
      = oP (B.wo l) (hid W x) (c.val / 2) i.val (512 * (c.val % 2) + (b + j.val)) := by
  rw [oNext_apply, oP_split]
  congr 1
  · refine Finset.sum_congr rfl fun k _ => ?_
    rw [(hs.sum c i k).1, wo_at H l c 0 b inbU k j, Nat.zero_add]
  · refine Finset.sum_congr rfl fun k _ => ?_
    rw [(hs.sum c i k).2, wo_at H l c 512 b inbD k j]

/-- The result slots of a layer from its hidden slots. -/
theorem result_slots (l : Fin 3) {W x : Nat → Nat → EReal} {sL sR : Dev nD → Vec Ideal S1x64x512 .bf16} (hs : HSlots W x sL sR) :
    OSlots (B.wo l) (hid W x) (fun c => oNext (sL c) (sL (yP c)) (sR c) (sR (yP c)) (woUL (A.wo l c)) (woDL (A.wo l c)))
      (fun c => oNext (sL c) (sL (yP c)) (sR c) (sR (yP c)) (woUR (A.wo l c)) (woDR (A.wo l c))) := fun c i j =>
  ⟨(result_part H l hs c 0 inb_S1024x512_S512x256_0_0 inb_S1024x512_S512x256_512_0 i j).trans (by rw [Nat.zero_add]),
    result_part H l hs c 256 inb_S1024x512_S512x256_0_256 inb_S1024x512_S512x256_512_256 i j⟩

/-! ## The whole -/

/-- The result slots of the last layer are partial sums of the last hidden activations. -/
theorem last_slots : OSlots (B.wo 2) (hid (B.wi 2) (res (B.wo 1) (hid (B.wi 1) (res (B.wo 0) (hid (B.wi 0) B.x))))) (ov4 A) (ov5 A) :=
  result_slots H 2 (next_slots H 2 (result_slots H 1 (next_slots H 1 (result_slots H 0 (first_slots H)))))

/-- The three layers of the whole arrays. -/
def whole (B : Arrays) : Nat → Nat → EReal :=
  res (B.wo 2) (hid (B.wi 2) (res (B.wo 1) (hid (B.wi 1) (res (B.wo 0) (hid (B.wi 0) B.x)))))

/-- Device `c`'s result block is the column half `c % 2` of the three layers of the whole arrays. -/
theorem outVal_at (c : Dev nD) (i : Fin 64) (j : Fin 512) : outVal A c (ix2 i j) = whole B i.val (512 * (c.val % 2) + j.val) := by
  have hi := i.isLt
  have hj := j.isLt
  have ho := last_slots H
  pointwise [outVal, outOver]
  by_cases h : 256 ≤ j.val
  · rw [dif_pos h, outR_apply, (ho.sum c i _).2]
    refine congrArg (whole B i.val) ?_
    show 512 * (c.val % 2) + (256 + (j.val - 256)) = _
    omega
  · rw [dif_neg h, dif_pos (by omega), outL_apply, (ho.sum c i _).1]
    rfl

end Steps

end Cert.MlpProof
-- ==== Proof.Reference.lean ====
/-
The reference's value: three layers of the whole arrays, element by element.
-/
module

public import proofs.«01_k».proof.Proof.Layers
public import proofs.«01_k».proof.Proof.Gen.ReferenceIdeal.Run

@[expose] public section

noncomputable section

namespace Cert.MlpProof

open Cert.ReferenceIdeal Cert.ReferenceIdeal.Gen
open Idealize.ShloMosaic Idealize.ShloMosaic.TcCoe Idealize.SL.Sem
/-- An array of two axes as a function of row and column (zero outside, where nothing reads it). -/
def nat2 {M N : Nat} (v : (⟨2, ![M, N]⟩ : Shape).Idx → EReal) (i j : Nat) : EReal :=
  if h : i < M ∧ j < N then v (ix2 ⟨i, h.1⟩ ⟨j, h.2⟩) else 0

theorem nat2_val {M N : Nat} (v : (⟨2, ![M, N]⟩ : Shape).Idx → EReal) (i : Fin M) (j : Fin N) : nat2 v i.val j.val = v (ix2 i j) :=
  dif_pos ⟨i.isLt, j.isLt⟩

/-- The reference's hidden activations of one layer. -/
def refHid (W : Vec Ideal S1024x2048 .bf16) (x : Vec Ideal S64x1024 .bf16) : Vec Ideal S64x2048 .bf16 :=
  maximumf (truncf .bf16 (Host.dotGeneral (F := Ideal) (φ₁ := .bf16) (φ₂ := .bf16) dot_S64x1024_S1024x2048_S64x2048_1_0_0_1_n_n none x W) bitsLt_bf16_f32)
    (broadcastInDim S64x2048 ![] bcast_S_S64x2048 (constant (F := Ideal) S_ .bf16 0x0000#16))

/-- The reference's result of one layer. -/
def refRes (W : Vec Ideal S2048x1024 .bf16) (h : Vec Ideal S64x2048 .bf16) : Vec Ideal S64x1024 .bf16 :=
  truncf .bf16 (Host.dotGeneral (F := Ideal) (φ₁ := .bf16) (φ₂ := .bf16) dot_S64x2048_S2048x1024_S64x1024_1_0_0_1_n_n none h W) bitsLt_bf16_f32

theorem refHid_apply (W : Vec Ideal S1024x2048 .bf16) (x : Vec Ideal S64x1024 .bf16) (i : Fin 64) (j : Fin 2048) :
    refHid W x (ix2 i j) = max (∑ k : Fin 1024, x (ix2 i k) * W (ix2 k j)) 0 := by
  pointwise [refHid]

theorem refRes_apply (W : Vec Ideal S2048x1024 .bf16) (h : Vec Ideal S64x2048 .bf16) (i : Fin 64) (j : Fin 1024) :
    refRes W h (ix2 i j) = ∑ k : Fin 2048, h (ix2 i k) * W (ix2 k j) := by
  pointwise [refRes]

theorem refHid_nat (W : Vec Ideal S1024x2048 .bf16) (x : Vec Ideal S64x1024 .bf16) (f : Nat → Nat → EReal)
    (hx : ∀ (i : Fin 64) (k : Fin 1024), x (ix2 i k) = f i.val k.val) (i : Fin 64) (j : Fin 2048) :
    refHid W x (ix2 i j) = hid (nat2 W) f i.val j.val := by
  rw [refHid_apply, hid, Finset.sum_range]
  congr 1
  exact Finset.sum_congr rfl fun k _ => by rw [hx, nat2_val]

theorem refRes_nat (W : Vec Ideal S2048x1024 .bf16) (h : Vec Ideal S64x2048 .bf16) (f : Nat → Nat → EReal)
    (hh : ∀ (i : Fin 64) (k : Fin 2048), h (ix2 i k) = f i.val k.val) (i : Fin 64) (j : Fin 1024) :
    refRes W h (ix2 i j) = res (nat2 W) f i.val j.val := by
  rw [refRes_apply, res, Finset.sum_range]
  exact Finset.sum_congr rfl fun k _ => by rw [hh, nat2_val]

/-- The reference's result of its seven arrays: three layers. -/
def refOut (x : Vec Ideal S64x1024 .bf16) (wi : Fin 3 → Vec Ideal S1024x2048 .bf16) (wo : Fin 3 → Vec Ideal S2048x1024 .bf16) :
    Vec Ideal S64x1024 .f32 :=
  extf (F := Ideal) (φ := .bf16) .f32 (refRes (wo 2) (refHid (wi 2) (refRes (wo 1) (refHid (wi 1) (refRes (wo 0) (refHid (wi 0) x)))))) bitsLt_bf16_f32

/-- The whole arrays as functions of row and column. -/
def arrays (x : Vec Ideal S64x1024 .bf16) (wi : Fin 3 → Vec Ideal S1024x2048 .bf16) (wo : Fin 3 → Vec Ideal S2048x1024 .bf16) : Arrays where
  x := nat2 x
  wi l := nat2 (wi l)
  wo l := nat2 (wo l)

/-- The reference's result is the three layers of the whole arrays. -/
theorem refOut_apply (x : Vec Ideal S64x1024 .bf16) (wi : Fin 3 → Vec Ideal S1024x2048 .bf16) (wo : Fin 3 → Vec Ideal S2048x1024 .bf16)
    (i : Fin 64) (j : Fin 1024) : refOut x wi wo (ix2 i j) = whole (arrays x wi wo) i.val j.val :=
  refRes_nat _ _ _ (refHid_nat _ _ _ (refRes_nat _ _ _ (refHid_nat _ _ _ (refRes_nat _ _ _ (refHid_nat _ _ _
    fun i k => (nat2_val x i k).symm))))) i j

/-- The input weights that the reference's memory holds, layer by layer, and the output weights. -/
def refWi (m : (ℓ : Loc nD τ sig) → Buf (Elt Ideal) ℓ) (l : Fin 3) : Vec Ideal S1024x2048 .bf16 := match l with
  | 0 => m (((0 : Dev nD).tc : Thread nD τ).loc main_arg1)
  | 1 => m (((0 : Dev nD).tc : Thread nD τ).loc main_arg2)
  | 2 => m (((0 : Dev nD).tc : Thread nD τ).loc main_arg3)
def refWo (m : (ℓ : Loc nD τ sig) → Buf (Elt Ideal) ℓ) (l : Fin 3) : Vec Ideal S2048x1024 .bf16 := match l with
  | 0 => m (((0 : Dev nD).tc : Thread nD τ).loc main_arg4)
  | 1 => m (((0 : Dev nD).tc : Thread nD τ).loc main_arg5)
  | 2 => m (((0 : Dev nD).tc : Thread nD τ).loc main_arg6)

/-- The reference's run: its result is `refOut` of its arguments, which end unchanged. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r =>
      r.2.mem (((0 : Dev nD).tc : Thread nD τ).loc main_v18)
        = refOut (m (((0 : Dev nD).tc : Thread nD τ).loc main_arg0)) (refWi m) (refWo m)
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)
      ∧ r.2.mem (((0 : Dev nD).tc : Thread nD τ).loc main_arg4) = m (((0 : Dev nD).tc : Thread nD τ).loc main_arg4)
      ∧ r.2.mem (((0 : Dev nD).tc : Thread nD τ).loc main_arg5) = m (((0 : Dev nD).tc : Thread nD τ).loc main_arg5)
      ∧ r.2.mem (((0 : Dev nD).tc : Thread nD τ).loc main_arg6) = m (((0 : Dev nD).tc : Thread nD τ).loc main_arg6) :=
  (θ_run defs _ _).mono (fun _ h => h 0) (Cert.ReferenceIdeal.Value.run (F := Ideal) m ρ)

end Cert.MlpProof
-- ==== Proof.Algebra.lean ====
/-
The kernel's result is the reference's: each device ends with its block of columns of the reference's result.
-/
module

public import proofs.«01_k».proof.Defs
public import proofs.«01_k».proof.Proof.Frames
public import proofs.«01_k».proof.Proof.Result
public import proofs.«01_k».proof.Proof.Reference

@[expose] public section

noncomputable section

namespace Cert.MlpProof

open Cert.KernelIdeal Cert.KernelIdeal.Gen
open Idealize.ShloMosaic Idealize.ShloMosaic.TcCoe Idealize.SL.Sem

/-- An element of a block of a whole array of two axes, by its row and column in the whole array. -/
theorem block_at {p q P Q : Nat} {kN : Fin 2 → Nat} (j : (b : Fin 2) → Fin (kN b)) (v : (⟨2, ![P, Q]⟩ : Shape).Idx → EReal)
    (h : Layout.TilesN ⟨2, ![p, q]⟩ ⟨2, ![P, Q]⟩ kN) (a : Fin p) (b : Fin q) :
    Layout.blockN ⟨2, ![p, q]⟩ ⟨2, ![P, Q]⟩ j v h (ix2 a b) = nat2 v ((j 0).val * p + a.val) ((j 1).val * q + b.val) := by
  rw [Layout.blockN_apply]
  exact (congrArg v (eq_ix2 _)).trans (nat2_val v _ _).symm

/-- The devices' column of the mesh of two by two, and their row. -/
theorem mesh_minor (c : Dev nD) : Layout.meshLin [2, 2] c.val [1] = c.val % 2 := by
  revert c; decide
theorem mesh_major (c : Dev nD) : Layout.meshLin [2, 2] c.val [0] = c.val / 2 := by
  revert c; decide

/-- A device's block of columns of an array of 64 rows. -/
theorem block_cols (c : Dev nD) (v : (⟨2, ![64, 1024]⟩ : Shape).Idx → EReal) (a : Fin 64) (b : Fin 512) :
    Layout.blockN ⟨2, ![64, 512]⟩ ⟨2, ![64, 1024]⟩ (Layout.meshBlock [2, 2] ![[], [1]] c) v (by decide) (ix2 a b)
      = nat2 v a.val (512 * (c.val % 2) + b.val) := by
  refine (block_at _ v _ a b).trans ?_
  congr 1
  · show 0 * 64 + a.val = a.val
    omega
  · show Layout.meshLin [2, 2] c.val [1] * 512 + b.val = _
    rw [mesh_minor, Nat.mul_comm]

/-- A device's block of an input weight. -/
theorem block_wi (c : Dev nD) (v : (⟨2, ![1024, 2048]⟩ : Shape).Idx → EReal) (a : Fin 512) (b : Fin 1024) :
    Layout.blockN ⟨2, ![512, 1024]⟩ ⟨2, ![1024, 2048]⟩ (Layout.meshBlock [2, 2] ![[1], [0]] c) v (by decide) (ix2 a b)
      = nat2 v (512 * (c.val % 2) + a.val) (1024 * (c.val / 2) + b.val) := by
  refine (block_at _ v _ a b).trans ?_
  congr 1
  · show Layout.meshLin [2, 2] c.val [1] * 512 + a.val = _
    rw [mesh_minor, Nat.mul_comm]
  · show Layout.meshLin [2, 2] c.val [0] * 1024 + b.val = _
    rw [mesh_major, Nat.mul_comm]

/-- A device's block of an output weight. -/
theorem block_wo (c : Dev nD) (v : (⟨2, ![2048, 1024]⟩ : Shape).Idx → EReal) (a : Fin 1024) (b : Fin 512) :
    Layout.blockN ⟨2, ![1024, 512]⟩ ⟨2, ![2048, 1024]⟩ (Layout.meshBlock [2, 2] ![[0], [1]] c) v (by decide) (ix2 a b)
      = nat2 v (1024 * (c.val / 2) + a.val) (512 * (c.val % 2) + b.val) := by
  refine (block_at _ v _ a b).trans ?_
  congr 1
  · show Layout.meshLin [2, 2] c.val [0] * 1024 + a.val = _
    rw [mesh_major, Nat.mul_comm]
  · show Layout.meshLin [2, 2] c.val [1] * 512 + b.val = _
    rw [mesh_minor, Nat.mul_comm]

/-- The kernel's result on each device is the device's block of columns of the reference's result. -/
theorem algebraic : Cert.algebraic_KernelIdeal_ReferenceIdeal := by
  intro m g m' g' _ hag
  have hB : Blocks (args m) (arrays (m' (((0 : Dev Cert.ReferenceIdeal.nD).tc : Thread Cert.ReferenceIdeal.nD Cert.ReferenceIdeal.τ).loc Cert.ReferenceIdeal.main_arg0))
      (refWi m') (refWo m')) := by
    refine ⟨fun c i k => ?_, fun l c k j => ?_, fun l c k j => ?_⟩
    · exact (congrFun ((args_x m c).trans (hag c).1) _).trans (block_cols c _ i k)
    · match l with
      | 0 => exact (congrFun ((args_wi0 m c).trans (hag c).2.1) _).trans (block_wi c _ k j)
      | 1 => exact (congrFun ((args_wi1 m c).trans (hag c).2.2.1) _).trans (block_wi c _ k j)
      | 2 => exact (congrFun ((args_wi2 m c).trans (hag c).2.2.2.1) _).trans (block_wi c _ k j)
    · match l with
      | 0 => exact (congrFun ((args_wo0 m c).trans (hag c).2.2.2.2.1) _).trans (block_wo c _ k j)
      | 1 => exact (congrFun ((args_wo1 m c).trans (hag c).2.2.2.2.2.1) _).trans (block_wo c _ k j)
      | 2 => exact (congrFun ((args_wo2 m c).trans (hag c).2.2.2.2.2.2) _).trans (block_wo c _ k j)
  have hv (c : Dev nD) : outVal (args m) c = Layout.blockN ⟨2, ![64, 512]⟩ ⟨2, ![64, 1024]⟩ (Layout.meshBlock [2, 2] ![[], [1]] c)
      (refOut (m' (((0 : Dev Cert.ReferenceIdeal.nD).tc : Thread Cert.ReferenceIdeal.nD Cert.ReferenceIdeal.τ).loc Cert.ReferenceIdeal.main_arg0))
        (refWi m') (refWo m')) := by
    funext i
    rw [eq_ix2 i]
    have hc : 512 * (c.val % 2) + (i 1).val < 1024 := by
      have h1 : (i 1).val < 512 := (i 1).isLt
      omega
    refine (outVal_at hB c (i 0) (i 1)).trans (((block_cols c _ (i 0) (i 1)).trans ?_).symm)
    exact (nat2_val _ (i 0) (⟨_, hc⟩ : Fin 1024)).trans (refOut_apply _ _ _ (i 0) ⟨_, hc⟩)
  exact ⟨_, (θ_run _ _ _).mono (fun r h c => ⟨(h.1 c (7 : Fin 8)).trans ((final_out m g c).trans (hv c)), args_kept h.1 c⟩) (run_main m g),
    run_reference m' g'⟩

end Cert.MlpProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MlpProof.frame_kernel, Cert.MlpProof.frame_kernelIdeal, Cert.MlpProof.frame_reference, trivial,
  Cert.MlpProof.algebraic⟩

end Cert.Proof

end
